-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v4)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v0) = v1 c
          ∧ r.2.mem ((c.tc : Thread Cert.ReferenceIdeal.nD Cert.ReferenceIdeal.τ).loc Cert.ReferenceIdeal.main_v1_1) = v2 c
          ∧ r.2.mem ((c.tc : Thread Cert.ReferenceIdeal.nD Cert.ReferenceIdeal.τ).loc Cert.ReferenceIdeal.main_v1_2) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x2880 : Shape := ⟨3, ![6, 256, 2880]⟩
abbrev S6x256x1024 : Shape := ⟨3, ![6, 256, 1024]⟩
abbrev S2880x1024 : Shape := ⟨2, ![2880, 1024]⟩
abbrev S1 : Shape := ⟨1, ![1]⟩
abbrev S1536x2880 : Shape := ⟨2, ![1536, 2880]⟩
abbrev S1536x1024 : Shape := ⟨2, ![1536, 1024]⟩
abbrev S6x256 : Shape := ⟨2, ![6, 256]⟩
abbrev S1536x512 : Shape := ⟨2, ![1536, 512]⟩
abbrev S512x1024 : Shape := ⟨2, ![512, 1024]⟩
abbrev S1536x128 : Shape := ⟨2, ![1536, 128]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S128x256 : Shape := ⟨2, ![128, 256]⟩
abbrev S1x256 : Shape := ⟨2, ![1, 256]⟩
abbrev S256x512 : Shape := ⟨2, ![256, 512]⟩

abbrev nBuf : Space → Nat
  | .hbm => 12
  | .vmem => 13
  | .smem => 1
  | _ => 0

abbrev bufTy : (tb : Table) → Fin (tcTables nBuf tb) → BufTy
  | .hbm, ⟨0, _⟩ => ⟨S6x256x2880, .bf16⟩
  | .hbm, ⟨1, _⟩ => ⟨S6x256x1024, .bf16⟩
  | .hbm, ⟨2, _⟩ => ⟨S2880x1024, .i8⟩
  | .hbm, ⟨3, _⟩ => ⟨S1, .f32⟩
  | .hbm, ⟨4, _⟩ => ⟨S1536x2880, .bf16⟩
  | .hbm, ⟨5, _⟩ => ⟨S1536x1024, .bf16⟩
  | .hbm, ⟨6, _⟩ => ⟨S1536x2880, .bf16⟩
  | .hbm, ⟨7, _⟩ => ⟨S2880x1024, .f32⟩
  | .hbm, ⟨8, _⟩ => ⟨S1536x1024, .i8⟩
  | .hbm, ⟨9, _⟩ => ⟨S6x256, .f32⟩
  | .hbm, ⟨10, _⟩ => ⟨S6x256x2880, .bf16⟩
  | .hbm, ⟨11, _⟩ => ⟨S6x256x1024, .i8⟩
  | .local _ .vmem, ⟨0, _⟩ => ⟨S1536x512, .bf16⟩
  | .local _ .vmem, ⟨1, _⟩ => ⟨S1536x512, .bf16⟩
  | .local _ .vmem, ⟨2, _⟩ => ⟨S1536x1024, .bf16⟩
  | .local _ .vmem, ⟨3, _⟩ => ⟨S512x1024, .i8⟩
  | .local _ .vmem, ⟨4, _⟩ => ⟨S512x1024, .i8⟩
  | .local _ .vmem, ⟨5, _⟩ => ⟨S1536x512, .bf16⟩
  | .local _ .vmem, ⟨6, _⟩ => ⟨S1536x512, .bf16⟩
  | .local _ .vmem, ⟨7, _⟩ => ⟨S512x1024, .f32⟩
  | .local _ .vmem, ⟨8, _⟩ => ⟨S512x1024, .f32⟩
  | .local _ .vmem, ⟨9, _⟩ => ⟨S1536x1024, .i8⟩
  | .local _ .vmem, ⟨10, _⟩ => ⟨S6x256, .f32⟩
  | .local _ .vmem, ⟨11, _⟩ => ⟨S1536x1024, .bf16⟩
  | .local _ .vmem, ⟨12, _⟩ => ⟨S1536x128, .f32⟩
  | .local _ .smem, ⟨0, _⟩ => ⟨S1, .f32⟩
  | _, _ => ⟨S6x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_v3 : Ref sig .tc := ⟨.hbm, 10, rfl⟩
abbrev main_v4 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![6], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1536x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x1024 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S6x256x2880 : Shape := ⟨3, ![6, 256, 2880]⟩
abbrev S6x256x1024 : Shape := ⟨3, ![6, 256, 1024]⟩
abbrev S2880x1024 : Shape := ⟨2, ![2880, 1024]⟩
abbrev S1 : Shape := ⟨1, ![1]⟩
abbrev S6x256 : Shape := ⟨2, ![6, 256]⟩
abbrev S6x256x1 : Shape := ⟨3, ![6, 256, 1]⟩

abbrev nBuf : Space → Nat
  | .hbm => 8
  | .vmem => 5
  | .smem => 1
  | _ => 0

abbrev bufTy : (tb : Table) → Fin (tcTables nBuf tb) → BufTy
  | .hbm, ⟨0, _⟩ => ⟨S6x256x2880, .bf16⟩
  | .hbm, ⟨1, _⟩ => ⟨S6x256x1024, .bf16⟩
  | .hbm, ⟨2, _⟩ => ⟨S2880x1024, .i8⟩
  | .hbm, ⟨3, _⟩ => ⟨S1, .f32⟩
  | .hbm, ⟨4, _⟩ => ⟨S2880x1024, .f32⟩
  | .hbm, ⟨5, _⟩ => ⟨S6x256x2880, .bf16⟩
  | .hbm, ⟨6, _⟩ => ⟨S6x256x1024, .i8⟩
  | .hbm, ⟨7, _⟩ => ⟨S6x256, .f32⟩
  | .local _ .vmem, ⟨0, _⟩ => ⟨S6x256x1024, .bf16⟩
  | .local _ .vmem, ⟨1, _⟩ => ⟨S2880x1024, .i8⟩
  | .local _ .vmem, ⟨2, _⟩ => ⟨S6x256x2880, .bf16⟩
  | .local _ .vmem, ⟨3, _⟩ => ⟨S6x256x1024, .i8⟩
  | .local _ .vmem, ⟨4, _⟩ => ⟨S6x256, .f32⟩
  | .local _ .smem, ⟨0, _⟩ => ⟨S1, .f32⟩
  | _, _ => ⟨S6x256x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x1024 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x2880 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x1024 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Bits.Frame.lean ====
/- THE FRAME of the kernel, at any value instance: every fair execution of @main terminates without fault, leaves the
   argument arrays as they were and every semaphore counter at zero. Nothing is said here of what the kernel computes,
   so every window is FORGOTTEN (Lib/Pipeline/Dat.lean `Dat.toRForget`): the body is handed each staging buffer at some
   contents and hands it back at some contents. That is enough although the last d_model block overhangs the arrays (2880 =
   5·512 + 320: the tail of a fetched block then holds words nothing names). -/
module

public import proofs.«01_k».proof.Proof.Gen.Kernel.Frame
public import proofs.«01_k».proof.Proof.Gen.Kernel.Skeleton

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's one `scf.if`, from the grid coordinates: the quantiser runs at grid point 0 only. -/
abbrev cond0 (i : grid0.Coords) : Prop := (Scalar.cmpi .ne (Scalar.extui (Scalar.cmpi .eq (BitVec.ofNat 32 (i 0).val) 0#32)) 0#32) = 1#1

/-- Every operand of the body at some contents: the eight windows' staging memrefs and the two scratch buffers. -/
def anyOps (c : Dev nD) (arg1 : Memref sig .tc .smem S1 .f32) (arg2 : Memref sig .tc .vmem S1536x512 .bf16) (arg3 : Memref sig .tc .vmem S1536x1024 .bf16) (arg4 : Memref sig .tc .vmem S512x1024 .i8) (arg5 : Memref sig .tc .vmem S1536x512 .bf16) (arg6 : Memref sig .tc .vmem S512x1024 .f32) (arg7 : Memref sig .tc .vmem S1536x1024 .i8) (arg8 : Memref sig .tc .vmem S6x256 .f32) (arg9 : Memref sig .tc .vmem S1536x1024 .bf16) (arg10 : Memref sig .tc .vmem S1536x128 .f32) : sProp 𝕄 :=
  iprop((∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d))

set_option maxHeartbeats 1000000 in
/-- The body at grid point 0 (`hc0`: the quantiser runs), on whole operands at any contents: it ends with each of them at some contents. -/
theorem run_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i) (E : Set ℕ) (K : PUnit → sProp 𝕄) :
    iprop(anyOps c arg1 arg2 arg3 arg4 arg5 arg6 arg7 arg8 arg9 arg10 ∗ (anyOps c arg1 arg2 arg3 arg4 arg5 arg6 arg7 arg8 arg9 arg10 -∗ K ⟨⟩))
      ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10) K := by
  simp only [cc0_switchback_bwd_eq_skeleton]; unfold cc0_switchback_bwd_skel
  simp only [k0_part6_eq_skeleton, k0_part1_eq_skeleton, k0_part2_eq_skeleton, k0_part3_eq_skeleton, k0_part4_eq_skeleton, k0_part5_eq_skeleton, k0_part7_eq_skeleton]
  unfold anyOps owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩⟩, Hk⟩
  sl_exec (disch := first | sl_exact hc0)
  sl_step
  iapply Hk
  isplitl [H0]; · iexists _; iexists _; isplitr; swap; (iexact H0); ipureintro; rfl
  isplitl [H1]; · iexists _; iexists _; isplitr; swap; (iexact H1); ipureintro; rfl
  isplitl [H2]; · iexists _; iexists _; isplitr; swap; (iexact H2); ipureintro; rfl
  isplitl [H3]; · iexists _; iexists _; isplitr; swap; (iexact H3); ipureintro; rfl
  isplitl [H4]; · iexists _; iexists _; isplitr; swap; (iexact H4); ipureintro; rfl
  isplitl [H5]; · iexists _; iexists _; isplitr; swap; (iexact H5); ipureintro; rfl
  isplitl [H6]; · iexists _; iexists _; isplitr; swap; (iexact H6); ipureintro; rfl
  isplitl [H7]; · iexists _; iexists _; isplitr; swap; (iexact H7); ipureintro; rfl
  isplitl [HS0]; · iexists _; iexists _; isplitr; swap; (iexact HS0); ipureintro; rfl
  iexists _; iexists _; isplitr; swap; (iexact HS1); ipureintro; rfl

set_option maxHeartbeats 1000000 in
/-- The body at the other grid points (`hc0`: the quantiser does not run), on whole operands at any contents: it ends with each of them at some contents. -/
theorem run_B (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : ¬cond0 i) (E : Set ℕ) (K : PUnit → sProp 𝕄) :
    iprop(anyOps c arg1 arg2 arg3 arg4 arg5 arg6 arg7 arg8 arg9 arg10 ∗ (anyOps c arg1 arg2 arg3 arg4 arg5 arg6 arg7 arg8 arg9 arg10 -∗ K ⟨⟩))
      ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10) K := by
  simp only [cc0_switchback_bwd_eq_skeleton]; unfold cc0_switchback_bwd_skel
  simp only [k0_part6_eq_skeleton, k0_part7_eq_skeleton]
  unfold anyOps owns
  iintro ⟨⟨⟨%d0, %f0, -, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩⟩, Hk⟩
  sl_exec (disch := first | sl_exact hc0)
  sl_step
  iapply Hk
  isplitl [H0]; · iexists _; iexists _; isplitr; swap; (iexact H0); ipureintro; rfl
  isplitl [H1]; · iexists _; iexists _; isplitr; swap; (iexact H1); ipureintro; rfl
  isplitl [H2]; · iexists _; iexists _; isplitr; swap; (iexact H2); ipureintro; rfl
  isplitl [H3]; · iexists _; iexists _; isplitr; swap; (iexact H3); ipureintro; rfl
  isplitl [H4]; · iexists _; iexists _; isplitr; swap; (iexact H4); ipureintro; rfl
  isplitl [H5]; · iexists _; iexists _; isplitr; swap; (iexact H5); ipureintro; rfl
  isplitl [H6]; · iexists _; iexists _; isplitr; swap; (iexact H6); ipureintro; rfl
  isplitl [H7]; · iexists _; iexists _; isplitr; swap; (iexact H7); ipureintro; rfl
  isplitl [HS0]; · iexists _; iexists _; isplitr; swap; (iexact HS0); ipureintro; rfl
  iexists _; iexists _; isplitr; swap; (iexact HS1); ipureintro; rfl

/-! ## The proof data and the body obligation -/

/-- Every window is forgotten. -/
def fgt : Fin cfg0.W → Bool := fun _ => true

/-- The proof data on core `c`: the arrays as the region finds them; what the body leaves in a staging buffer unnamed;
    the invariant the scratch buffers and the generator register at anything; full shares; nothing owed. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant with the scratch operands as memrefs owned at some contents. -/
theorem PhiA0_eq (c : Dev nD) :
    (Pipeline.ΦA spec0 c : sProp 𝕄)
      = iprop(iprop((∃ d, owns (c : Thread nD τ) (Memref.whole cc0_scratch0 : Memref sig .tc .vmem S1536x1024 .bf16) fullShare d) ∗ (∃ d, owns (c : Thread nD τ) (Memref.whole cc0_scratch1 : Memref sig .tc .vmem S1536x128 .f32) fullShare d)) ∗ (∃ r, prngReg c r)) := by
  unfold Pipeline.ΦA; rw [scopedRest0_eq]; simp only [owns_whole]; try rfl

/-- What the body is called with at point `t`, and what it returns: every staging memref at some contents, before and after. -/
def bodyPre (c : Dev nD) (t : Fin cfg0.N) (u : Fin (cfg0.N + 1)) : sProp 𝕄 :=
  iprop((dats m 0 c).Φ u ∗ (dats m 0 c).owesAt () u
    ∗ (∃ d, owns (c : Thread nD τ) (st0_0 t) fullShare d) ∗ (∃ d, owns (c : Thread nD τ) (st0_1 t) fullShare d)
    ∗ (∃ d, owns (c : Thread nD τ) (st0_2 t) fullShare d) ∗ (∃ d, owns (c : Thread nD τ) (st0_3 t) fullShare d)
    ∗ (∃ d, owns (c : Thread nD τ) (st0_4 t) fullShare d) ∗ (∃ d, owns (c : Thread nD τ) (st0_5 t) fullShare d)
    ∗ (∃ d, owns (c : Thread nD τ) (st0_6 t) fullShare d) ∗ (∃ d, owns (c : Thread nD τ) (st0_7 t) fullShare d))

/-- The body at any point, by the run of the case the point is in. -/
theorem sound_body (c : Dev nD) (t : Fin cfg0.N) :
    bodyPre m c t t.castSucc ⊢ wp frame (wpE (defs₀ (F := F)) Variants.none c none) Set.univ (bodyAt0 t) (fun _ => bodyPre m c t t.succ) := by
  unfold bodyPre bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  iintro ⟨⟨⟨HS0, HS1⟩, Hg⟩, Ho, H0, H1, H2, H3, H4, H5, H6, H7⟩
  by_cases hc0 : cond0 (grid0.coords t)
  · iapply run_A c (grid0.coords t) _ _ _ _ _ _ _ _ _ _ _ _ _ _ _ _ _ (Memref.isWhole_whole _) _ (Memref.isWhole_whole _) hc0 Set.univ _
    unfold anyOps
    isplitl [HS0 HS1 H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · iapply run_B c (grid0.coords t) _ _ _ _ _ _ _ _ _ _ _ _ _ _ _ _ _ (Memref.isWhole_whole _) _ (Memref.isWhole_whole _) hc0 Set.univ _
    unfold anyOps
    isplitl [HS0 HS1 H0 H1 H2 H3 H4 H5 H6 H7]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      iexact HS1
    iintro ⟨H0, H1, H2, H3, H4, H5, H6, H7, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with every window forgotten. -/
theorem body_obligation (c : Dev nD) :
    BodyObligationLoose (dats (F := F) m 0 c) (defs₀ (F := F)) Variants.none () Set.univ fgt := fun t => by
  rw [bigSep_W0, bigSep_W0, defs₀_row]
  exact triple_restated (sound_body m c t) rfl .rfl fun _ => .rfl

/-! ## The launch -/

/-- What the host lines after the region write. -/
def T : Finset (Ref sig .tc) := {main_v3, main_v4}

theorem sfx_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl <;> intro b hb <;> simp only [StableHlo.reshape_writes, Finset.mem_singleton] at hb
  · by_cases h : b = main_v3
    · subst h; decide
    · exact absurd hb (StableHlo.devRef_ne_of_ne h)
  · by_cases h : b = main_v4
    · subst h; decide
    · exact absurd hb (StableHlo.devRef_ne_of_ne h)

set_option backward.isDefEq.respectTransparency.types false in
/-- The launch, with the counters: from any memory with zero counters every fair execution of @main terminates, each array of the
    pipeline ends at contents its windows' write-backs allow (an input's: its entry contents), every other buffer but the two
    the last host lines write is as the region found it, and every semaphore counter is zero. -/
theorem run_main : θ_run defs (onTc (τ := τ) (main (F := F))) (s₀ m ρ)
    (fun r => Pipeline.RDat.FramePostR (cfgs 0) (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := body_obligation m) (hshare := fun c => (dats m 0 c).share_full fun _ => rfl)
    (howed := fun _ _ => rfl) (V₀ := V0 m) (opss := [hostOps1]) (hsub := sfx_sub) (hfresh := sfx_fresh) (hkeep := sfx_keeps)
    (hT := sfx_T) (hmain := hmain m Variants.none) (hA := A_eq m) (hΦ := fun _ _ => rfl)

/-- THE FRAME: `Cert.quiescent_Kernel`'s statement at any value instance. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
    ((h.1 c).2 main_arg0 (Finset.mem_sdiff.mpr ⟨Pipeline.mem_restRefs_of main_arg0 (by decide) (by decide), by decide⟩)).trans (V_main_arg0 m c),
    ((h.1 c).2 main_arg1 (Finset.mem_sdiff.mpr ⟨Pipeline.mem_restRefs_of main_arg1 (by decide) (by decide), by decide⟩)).trans (V_main_arg1 m c),
    (h.1.arr_in c 3 rfl).trans (V_main_arg2 m c),
    (h.1.arr_in c 0 rfl).trans (V_main_arg3 m c)⟩, h.2⟩) (run_main m ρ)

end Cert.Kernel.Hand

end
-- ==== Proof.Ideal.Cond.lean ====
/- The condition of the kernel body's one `scf.if`, and where on the grid it holds. -/
module

public import proofs.«01_k».proof.Proof.Gen.KernelIdeal.Frame
public import proofs.«01_k».proof.Proof.Gen.KernelIdeal.Skeleton

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The condition of the body's `scf.if`, from the grid coordinates. -/
abbrev cond0 (i : grid0.Coords) : Prop := (Scalar.cmpi .ne (Scalar.extui (Scalar.cmpi .eq (BitVec.ofNat 32 (i 0).val) 0#32)) 0#32) = 1#1

/-- It holds at the first grid point only: the quantiser runs once. -/
theorem hcond0 : ∀ t : Fin cfg0.N, cond0 (grid0.coords t) ↔ t.val % 6 = 0 :=
  (fun t => by
    have ht : t.val < 6 := Nat.lt_of_lt_of_eq t.isLt N_0
    have e0 : (grid0.coords t 0).val = t.val / 1 % 6 := Pipeline.Grid.coords_val t 0 (by decide) rfl
    simp only [cond0, e0]
    word_cmp
   : ∀ t : Fin grid0.N, cond0 (grid0.coords t) ↔ t.val % 6 = 0)

end Cert.KernelIdeal.Hand

end
-- ==== Proof.Ideal.RunA.lean ====
/- The body of the kernel at grid point 0, run: what its stores leave in each buffer it writes, as a list of pieces. The run
   finds the pieces; `Ideal/PiecesA.lean` gives them closed forms. -/
module

public import proofs.«01_k».proof.Proof.Gen.KernelIdeal.Frame
public import proofs.«01_k».proof.Proof.Gen.KernelIdeal.Skeleton
public import proofs.«01_k».proof.Proof.Ideal.Cond

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- Grid point 0 (`hc0`: the quantiser runs). On whole operands, the four inputs at `x0 … x3` and the others at anything, the
    body ends with the inputs as they were and every other buffer with the found pieces written (last first). -/
noncomputable def runA (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec F S1 .f32) (x1 : Vec F S1536x512 .bf16) (x2 : Vec F S1536x1024 .bf16) (x3 : Vec F S512x1024 .i8) :
    Σ' (L4 : List (View.Piece (Elt F) S1536x512 .bf16)), Σ' (L5 : List (View.Piece (Elt F) S512x1024 .f32)), Σ' (L6 : List (View.Piece (Elt F) S1536x1024 .i8)), Σ' (L7 : List (View.Piece (Elt F) S6x256 .f32)), Σ' (LS0 : List (View.Piece (Elt F) S1536x1024 .bf16)), { LS1 : List (View.Piece (Elt F) S1536x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1)) -∗ K ⟨⟩))
          ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    simp only [cc0_switchback_bwd_eq_skeleton]; unfold cc0_switchback_bwd_skel
    simp only [k0_part6_eq_skeleton, k0_part1_eq_skeleton, k0_part2_eq_skeleton, k0_part3_eq_skeleton, k0_part4_eq_skeleton, k0_part5_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [H6]; · iexists _; iexact H6
    isplitl [H7]; · iexists _; iexact H7
    isplitl [HS0]; · iexists _; iexact HS0
    iexists _; iexact HS1

end Cert.KernelIdeal.Hand

end
-- ==== Proof.Ideal.Quant.lean ====
/- The row-wise quantiser as plain functions of one row, at the extended reals: what both the kernel (256 rows at a time) and
   the reference (a [6, 256, 1024] array at once) compute of each row of 1024 gradients. The scalar operations stay the
   printed ones (`FloatOps.…`), so nothing here depends on how they are defined. -/
module

public import Idealize.ShloMosaic.Lib.Pointwise

@[expose] public section

noncomputable section

namespace Cert.Quant

open Idealize.ShloMosaic

section Scalars
variable {F : FTy → Type} [FloatOps F]

/-- x widened to f32. -/
def extE (x : F .bf16) : F .f32 := FloatOps.extf .f32 (by decide) x

/-- |x|, taken after widening to f32. -/
def absE (x : F .bf16) : F .f32 := FloatOps.absf (extE x)

/-- The scale of a row whose greatest |x| is `a`: 1 if `a = 0`, else `a / 127`. -/
def scaleOf (a : F .f32) : F .f32 :=
  Scalar.select (FloatOps.cmpf .oeq a (Scalar.ofBits .f32 0x00000000#32)) (Scalar.ofBits .f32 0x3F800000#32)
    (FloatOps.divf a (Scalar.ofBits .f32 0x42FE0000#32))

/-- The code of a widened element under a scale: x / s rounded to nearest even, clipped to [-127, 127], as an 8-bit integer. -/
def codeOf (s x : F .f32) : BitVec 8 :=
  FloatOps.fptosi 8 (FloatOps.minimumf (Scalar.ofBits .f32 0x42FE0000#32)
    (FloatOps.maximumf (Scalar.ofBits .f32 0xC2FE0000#32) (FloatOps.roundeven (FloatOps.divf x s))))

end Scalars

/-- The greatest |x| of a row. -/
def rowMax (r : Fin 1024 → Ideal .bf16) : Ideal .f32 :=
  (Finset.univ : Finset (Fin 1024)).fold (max : EReal → EReal → EReal) (FloatOps.ofBits (F := Ideal) .f32 0xFF800000#32) fun k => absE (r k)

/-- The scale of a row. -/
def rowScale (r : Fin 1024 → Ideal .bf16) : Ideal .f32 := scaleOf (rowMax r)

/-- The code of element `k` of a row. -/
def rowCode (r : Fin 1024 → Ideal .bf16) (k : Fin 1024) : BitVec 8 := codeOf (rowScale r) (extE (r k))

/-- A code as the bf16 number the products are taken with. -/
def codeE (c : BitVec 8) : EReal := FloatOps.sitofp (F := Ideal) .bf16 c

/-- One entry of the input gradient: (Σ over d_out of code · weight code) · row scale · weight scale. -/
def dxE (r : Fin 1024 → Ideal .bf16) (w : Fin 1024 → BitVec 8) (ws : Ideal .f32) : EReal :=
  (∑ k : Fin 1024, codeE (rowCode r k) * codeE (w k)) * (rowScale r : EReal) * (ws : EReal)

end Cert.Quant

end
-- ==== Proof.Ideal.Chunk.lean ====
/- The kernel body's pure expressions, read at an index: a chunk of 256 rows quantised, a chunk of the input gradient, the block of the
   weight gradient. The six chunks are printed by six differently cut texts of the same arithmetic; the `_eq` lemmas bring
   each to chunk 0's. -/
module

public import proofs.«01_k».proof.Proof.Gen.KernelIdeal.Skeleton
public import proofs.«01_k».proof.Proof.Ideal.Quant

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.Tactic

section Layout
variable {α : Type}

theorem cast_256_256x1 (x : S256.Idx → α) (h : S256.ShapeCasts S256x1) (p : Fin 256) (q : Fin 1) : shapeCast S256x1 x h (ix2 p q) = x (ix1 p) := by
  pointwise

theorem bc_1024 (x : S256x1.Idx → α) (h : S256x1.Broadcasts S256x1024) (p : Fin 256) (q : Fin 1024) : broadcastTo S256x1024 x h (ix2 p q) = x (ix2 p 0) := by
  pointwise

theorem bc_128 (x : S256x1.Idx → α) (h : S256x1.Broadcasts S256x128) (p : Fin 256) (q : Fin 128) : broadcastTo S256x128 x h (ix2 p q) = x (ix2 p 0) := by
  pointwise

theorem slice_t (x : S256x128.Idx → α) (h : S256x128.Transposes [1, 0] S128x256) (h' : S128x256.Slices ![0, 0] S1x256) (p : Fin 1) (q : Fin 256) :
    extractStridedSlice S1x256 ![0, 0] (transpose S128x256 [1, 0] x h) h' (ix2 p q) = x (ix2 q 0) := by
  pointwise

end Layout

/-- Row `p` of a chunk. -/
def crow (v : Vec Ideal S256x1024 .bf16) (p : Fin 256) : Fin 1024 → Ideal .bf16 := fun k => v (ix2 p k)

section AnyValues
variable {F : FTy → Type} [FloatOps F]

theorem pay2_apply (v : Vec F S256x1024 .bf16) (y : S256x1024.Idx) : k0_pay2 v y = extE (v y) := by
  unfold k0_pay2; rw [shapeCast_id]; rfl

theorem pay3_gen (v : Vec F S256x1024 .bf16) (y : S256x1.Idx) :
    k0_pay3 v y = scaleOf (shapeCast S256x1 (multiReduction .maximumf [1] S256 (absf (k0_pay2 v)) 0xFF800000#32 reduces_S256x1024_S256 (.inl rfl) rfl) shapeCasts_S256_S256x1 y) := rfl

theorem pay4_gen (v : Vec F S256x1024 .bf16) (y : S256x1024.Idx) :
    k0_pay4 v y = codeOf (broadcastTo S256x1024 (k0_pay3 v) broadcasts_S256x1_S256x1024 y) (k0_pay2 v y) := rfl

theorem pay5_gen (v : Vec F S256x1024 .bf16) (y : S256x1024.Idx) : k0_pay5 v y = FloatOps.sitofp .bf16 (k0_pay4 v y) := by
  unfold k0_pay5; rw [shapeCast_id]; rfl

theorem pay6_gen (v : Vec F S256x1024 .bf16) : k0_pay6 v = broadcastTo S256x128 (k0_pay3 v) broadcasts_S256x1_S256x128 := by
  unfold k0_pay6; rw [shapeCast_id]

theorem pay7_gen (v : Vec F S256x1024 .bf16) : k0_pay7 v = k0_pay6 v := by
  unfold k0_pay7; rw [shapeCast_id]

theorem pay8_gen (v : Vec F S256x1024 .bf16) (p : Fin 1) (q : Fin 256) : k0_pay8 v (ix2 p q) = k0_pay6 v (ix2 q 0) := by
  unfold k0_pay8; exact slice_t _ _ _ p q

/-! The other chunks' texts are chunk 0's. -/
theorem codes_1 (v : Vec F S256x1024 .bf16) : k0_pay12 (k0_pay9 v) (k0_pay10 v) = k0_pay4 v := rfl
theorem codes_2 (v : Vec F S256x1024 .bf16) : k0_pay22 (k0_pay17 v) (k0_pay18 v) (k0_pay19 v) k0_pay20 = k0_pay4 v := rfl
theorem codes_3 (v : Vec F S256x1024 .bf16) : k0_pay30 (k0_pay29 v) = k0_pay4 v := rfl
theorem codes_4 (v : Vec F S256x1024 .bf16) : k0_pay37 v = k0_pay4 v := rfl
theorem codes_5 (v : Vec F S256x1024 .bf16) : k0_pay44 v = k0_pay4 v := rfl
theorem codesB_1 (v : Vec F S256x1024 .bf16) : k0_pay13 (k0_pay9 v) (k0_pay10 v) = k0_pay5 v := rfl
theorem codesB_2 (v : Vec F S256x1024 .bf16) : k0_pay23 (k0_pay17 v) (k0_pay18 v) (k0_pay19 v) k0_pay20 = k0_pay5 v := rfl
theorem codesB_3 (v : Vec F S256x1024 .bf16) : k0_pay31 (k0_pay29 v) = k0_pay5 v := rfl
theorem codesB_4 (v : Vec F S256x1024 .bf16) : k0_pay38 (k0_pay37 v) = k0_pay5 v := rfl
theorem codesB_5 (v : Vec F S256x1024 .bf16) : k0_pay46 (k0_pay45 v) = k0_pay5 v := rfl
theorem scalesB_1 (v : Vec F S256x1024 .bf16) : k0_pay15 (k0_pay10 v) = k0_pay7 v := rfl
theorem scalesB_2 (v : Vec F S256x1024 .bf16) : k0_pay25 (k0_pay18 v) (k0_pay19 v) k0_pay20 = k0_pay7 v := rfl
theorem scalesB_3 (v : Vec F S256x1024 .bf16) : k0_pay33 (k0_pay28 v) = k0_pay7 v := rfl
theorem scalesB_4 (v : Vec F S256x1024 .bf16) : k0_pay40 (k0_pay36 v) = k0_pay7 v := rfl
theorem scalesB_5 (v : Vec F S256x1024 .bf16) : k0_pay48 (k0_pay43 v) = k0_pay7 v := rfl
theorem scales_1 (v : Vec F S256x1024 .bf16) : k0_pay16 (k0_pay10 v) = k0_pay8 v := rfl
theorem scales_2 (v : Vec F S256x1024 .bf16) : k0_pay26 (k0_pay18 v) (k0_pay19 v) k0_pay20 = k0_pay8 v := rfl
theorem scales_3 (v : Vec F S256x1024 .bf16) : k0_pay34 (k0_pay28 v) = k0_pay8 v := rfl
theorem scales_4 (v : Vec F S256x1024 .bf16) : k0_pay41 (k0_pay36 v) = k0_pay8 v := rfl
theorem scales_5 (v : Vec F S256x1024 .bf16) : k0_pay49 (k0_pay43 v) = k0_pay8 v := rfl
theorem dx_1 (w : Vec F S512x1024 .i8) (u : Elt F .f32) (v : Vec F S256x1024 .bf16) (s : Vec F S256x128 .f32) : k0_pay52 w u v s = k0_pay51 w u v s := rfl
theorem dx_2 (w : Vec F S512x1024 .i8) (u : Elt F .f32) (v : Vec F S256x1024 .bf16) (s : Vec F S256x128 .f32) : k0_pay53 w u v s = k0_pay51 w u v s := rfl
theorem dx_3 (w : Vec F S512x1024 .i8) (u : Elt F .f32) (v : Vec F S256x1024 .bf16) (s : Vec F S256x128 .f32) : k0_pay54 (k0_pay50 w) u v s = k0_pay51 w u v s := rfl
theorem dx_4 (w : Vec F S512x1024 .i8) (u : Elt F .f32) (v : Vec F S256x1024 .bf16) (s : Vec F S256x128 .f32) : k0_pay55 (k0_pay50 w) u v s = k0_pay51 w u v s := rfl
theorem dx_5 (w : Vec F S512x1024 .i8) (u : Elt F .f32) (v : Vec F S256x1024 .bf16) (s : Vec F S256x128 .f32) : k0_pay56 (k0_pay50 w) u v s = k0_pay51 w u v s := rfl

theorem pay57_gen (x : Vec F S1536x512 .bf16) : k0_pay57 x = x := by
  unfold k0_pay57; rw [shapeCast_id]

end AnyValues

/-- The row maxima of a chunk. -/
theorem max_apply (v : Vec Ideal S256x1024 .bf16) (p : Fin 256) :
    multiReduction .maximumf [1] S256 (absf (k0_pay2 v)) 0xFF800000#32 reduces_S256x1024_S256 (.inl rfl) rfl (ix1 p) = rowMax (crow v p) := by
  have e : (absf (k0_pay2 v) : FVec Ideal S256x1024 .f32) = fun y => absE (v y) := funext fun y => congrArg FloatOps.absf (pay2_apply v y)
  rw [e]
  refine (Ideal.multiReduction_maximumf_single _ _ _ _ _ _).trans ?_
  unfold rowMax
  exact congrArg (fun f => Finset.fold max _ f _) (funext fun k => congrArg absE (congrArg v (eq_ix2 _)))

/-- The scales of a chunk. -/
theorem pay3_apply (v : Vec Ideal S256x1024 .bf16) (p : Fin 256) (q : Fin 1) : k0_pay3 v (ix2 p q) = rowScale (crow v p) :=
  (pay3_gen v _).trans (congrArg scaleOf ((cast_256_256x1 _ shapeCasts_S256_S256x1 p q).trans (max_apply v p)))

/-- The codes of a chunk. -/
theorem pay4_apply (v : Vec Ideal S256x1024 .bf16) (p : Fin 256) (q : Fin 1024) : k0_pay4 v (ix2 p q) = rowCode (crow v p) q := by
  rw [pay4_gen, bc_1024, pay3_apply, pay2_apply]; rfl

/-- The codes of a chunk as the numbers the products are taken with. -/
theorem pay5_apply (v : Vec Ideal S256x1024 .bf16) (p : Fin 256) (q : Fin 1024) : k0_pay5 v (ix2 p q) = codeE (rowCode (crow v p) q) := by
  rw [pay5_gen, pay4_apply]; rfl

/-- The scales of a chunk, one copy per lane. -/
theorem pay7_apply (v : Vec Ideal S256x1024 .bf16) (p : Fin 256) (q : Fin 128) : k0_pay7 v (ix2 p q) = rowScale (crow v p) := by
  rw [pay7_gen, pay6_gen, bc_128, pay3_apply]

/-- The scales of a chunk, as a row. -/
theorem pay8_apply (v : Vec Ideal S256x1024 .bf16) (p : Fin 1) (q : Fin 256) : k0_pay8 v (ix2 p q) = rowScale (crow v q) := by
  rw [pay8_gen, pay6_gen, bc_128, pay3_apply]

/-- A chunk of the input gradient, from codes `v` and scales `s` that are the same on all lanes. -/
theorem pay51_apply (w : Vec Ideal S512x1024 .i8) (u : Elt Ideal .f32) (v : Vec Ideal S256x1024 .bf16) (s : Vec Ideal S256x128 .f32) (a : Fin 256 → EReal)
    (hs : ∀ p q, s (ix2 p q) = a p) (p : Fin 256) (q : Fin 512) :
    k0_pay51 w u v s (ix2 p q) = ((∑ k : Fin 1024, (v (ix2 p k) : EReal) * codeE (w (ix2 q k))) * a p * (u : EReal) : EReal) := by
  pointwise [k0_pay51, k0_pay50]
  simp only [hs]
  have hq := q.isLt
  split_ifs <;> first | rfl | omega

/-- The block of the weight gradient. -/
theorem pay1_apply (x : Vec Ideal S1536x512 .bf16) (v : Vec Ideal S1536x1024 .bf16) (p : Fin 512) (q : Fin 1024) :
    k0_pay1 x v (ix2 p q) = (∑ k : Fin 1536, (x (ix2 k p) : EReal) * (v (ix2 k q) : EReal) : EReal) := by
  pointwise [k0_pay1]

end Cert.KernelIdeal.Hand

end
-- ==== Proof.Ideal.Closed.lean ====
/- What the kernel's buffers hold, as functions of the operands: the codes and scales of the incoming gradient, a block of the
   input gradient, a block of the weight gradient; and that each stored chunk is the corresponding window of these. -/
module

public import Idealize.ShloMosaic.Lib.VecWindow
public import proofs.«01_k».proof.Proof.Ideal.Chunk

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.Tactic

/-- Row `a` of the incoming gradient (1536 rows of 1024). -/
def row (x : Vec Ideal S1536x1024 .bf16) (a : Fin 1536) : Fin 1024 → Ideal .bf16 := fun k => x (ix2 a k)

/-- The 8-bit codes of all rows. -/
def codes (x : Vec Ideal S1536x1024 .bf16) : Vec Ideal S1536x1024 .i8 := fun y => rowCode (row x (y 0)) (y 1)

/-- The codes as bf16 numbers. -/
def codesB (x : Vec Ideal S1536x1024 .bf16) : Vec Ideal S1536x1024 .bf16 := fun y => codeE (rowCode (row x (y 0)) (y 1))

/-- The scale of each row on each of 128 lanes. -/
def scalesB (x : Vec Ideal S1536x1024 .bf16) : Vec Ideal S1536x128 .f32 := fun y => rowScale (row x (y 0))

/-- The row of the flattened gradient that (batch, position) names. -/
def flat (p : Fin 6) (q : Fin 256) : Fin 1536 := ⟨256 * p.val + q.val, by omega⟩

/-- The scales by (batch, position). -/
def scales (x : Vec Ideal S1536x1024 .bf16) : Vec Ideal S6x256 .f32 := fun y => rowScale (row x (flat (y 0) (y 1)))

/-- A block of 512 columns of the input gradient, from the weight codes' 512 rows. -/
def dxB (x : Vec Ideal S1536x1024 .bf16) (w : Vec Ideal S512x1024 .i8) (u : Ideal .f32) : Vec Ideal S1536x512 .bf16 :=
  fun y => dxE (row x (y 0)) (fun k => w (ix2 (y 1) k)) u

/-- A block of 512 rows of the weight gradient. -/
def dwB (z : Vec Ideal S1536x512 .bf16) (x : Vec Ideal S1536x1024 .bf16) : Vec Ideal S512x1024 .f32 :=
  fun y => (∑ k : Fin 1536, (z (ix2 k (y 0)) : EReal) * (x (ix2 k (y 1)) : EReal) : EReal)

/-- Row `p` of the chunk of 256 rows from row `o` is row `o + p`. -/
theorem crow_ld (x : Vec Ideal S1536x1024 .bf16) (o : ℕ) (inb : ∀ a, ![o, 0] a + S256x1024.size a ≤ S1536x1024.size a) (p : Fin 256) (h : o + p.val < 1536) :
    crow (View.ld (Val := Elt Ideal) (e' := .bf16) x (Rect.unit (s := S1536x1024) ![o, 0] S256x1024.size inb)) p = row x ⟨o + p.val, h⟩ := by
  funext k
  refine congrArg x (funext fun a => Fin.ext ?_)
  match a with
  | ⟨0, _⟩ => show o + 1 * p.val = o + p.val; omega
  | ⟨1, _⟩ => show 0 + 1 * k.val = k.val; omega

/-- The codes of a chunk are the window of the codes. -/
theorem codes_chunk (x : Vec Ideal S1536x1024 .bf16) (o : ℕ) (inb : ∀ a, ![o, 0] a + S256x1024.size a ≤ S1536x1024.size a) (y : S256x1024.Idx) :
    k0_pay4 (View.ld (Val := Elt Ideal) (e' := .bf16) x (Rect.unit (s := S1536x1024) ![o, 0] S256x1024.size inb)) y
      = codes x ((Rect.unit (s := S1536x1024) ![o, 0] S256x1024.size inb).emb y) := by
  obtain ⟨p, q, rfl⟩ : ∃ (p : Fin 256) (q : Fin 1024), y = ix2 p q := ⟨y 0, y 1, eq_ix2 y⟩
  have h : o + p.val < 1536 := by have := inb 0; have := p.isLt; simp [S256x1024, S1536x1024] at *; omega
  rw [pay4_apply, crow_ld x o inb _ h]
  refine congr (congrArg rowCode (congrArg (row x) (Fin.ext ?_))) (Fin.ext ?_)
  · show o + p.val = o + 1 * p.val; omega
  · show q.val = 0 + 1 * q.val; omega

/-- The same for the codes as numbers. -/
theorem codesB_chunk (x : Vec Ideal S1536x1024 .bf16) (o : ℕ) (inb : ∀ a, ![o, 0] a + S256x1024.size a ≤ S1536x1024.size a) (y : S256x1024.Idx) :
    k0_pay5 (View.ld (Val := Elt Ideal) (e' := .bf16) x (Rect.unit (s := S1536x1024) ![o, 0] S256x1024.size inb)) y
      = codesB x ((Rect.unit (s := S1536x1024) ![o, 0] S256x1024.size inb).emb y) := by
  rw [pay5_gen, codes_chunk]; rfl

/-- The scales of a chunk, one copy per lane. -/
theorem scalesB_chunk (x : Vec Ideal S1536x1024 .bf16) (o : ℕ) (inb : ∀ a, ![o, 0] a + S256x1024.size a ≤ S1536x1024.size a)
    (inb' : ∀ a, ![o, 0] a + S256x128.size a ≤ S1536x128.size a) (y : S256x128.Idx) :
    k0_pay7 (View.ld (Val := Elt Ideal) (e' := .bf16) x (Rect.unit (s := S1536x1024) ![o, 0] S256x1024.size inb)) y
      = scalesB x ((Rect.unit (s := S1536x128) ![o, 0] S256x128.size inb').emb y) := by
  obtain ⟨p, q, rfl⟩ : ∃ (p : Fin 256) (q : Fin 128), y = ix2 p q := ⟨y 0, y 1, eq_ix2 y⟩
  have h : o + p.val < 1536 := by have := inb 0; have := p.isLt; simp [S256x1024, S1536x1024, S256x128] at *; omega
  rw [pay7_apply, crow_ld x o inb _ h]
  refine congrArg rowScale (congrArg (row x) (Fin.ext ?_))
  show o + p.val = o + 1 * p.val; omega

/-- The scales of chunk `t`, as row `t` of the scales. -/
theorem scales_chunk (x : Vec Ideal S1536x1024 .bf16) (o t : ℕ) (ho : o = 256 * t) (inb : ∀ a, ![o, 0] a + S256x1024.size a ≤ S1536x1024.size a)
    (inb' : ∀ a, ![t, 0] a + S1x256.size a ≤ S6x256.size a) (y : S1x256.Idx) :
    k0_pay8 (View.ld (Val := Elt Ideal) (e' := .bf16) x (Rect.unit (s := S1536x1024) ![o, 0] S256x1024.size inb)) y
      = scales x ((Rect.unit (s := S6x256) ![t, 0] S1x256.size inb').emb y) := by
  obtain ⟨p, q, rfl⟩ : ∃ (p : Fin 1) (q : Fin 256), y = ix2 p q := ⟨y 0, y 1, eq_ix2 y⟩
  have h0 : p.val = 0 := by omega
  have h : o + q.val < 1536 := by have := inb 0; have := q.isLt; simp [S256x1024, S1536x1024, S1x256] at *; omega
  rw [pay8_apply, crow_ld x o inb _ h]
  refine congrArg rowScale (congrArg (row x) (Fin.ext ?_))
  show o + q.val = 256 * (t + 1 * p.val) + (0 + 1 * q.val); omega

/-- A chunk of the input gradient's block, from the windows of the codes and scales. -/
theorem dx_chunk (x : Vec Ideal S1536x1024 .bf16) (w : Vec Ideal S512x1024 .i8) (u : Ideal .f32) (o : ℕ) (inb : ∀ a, ![o, 0] a + S256x1024.size a ≤ S1536x1024.size a)
    (inb' : ∀ a, ![o, 0] a + S256x128.size a ≤ S1536x128.size a) (inb'' : ∀ a, ![o, 0] a + S256x512.size a ≤ S1536x512.size a) (y : S256x512.Idx) :
    k0_pay51 w u (View.ld (Val := Elt Ideal) (e' := .bf16) (codesB x) (Rect.unit (s := S1536x1024) ![o, 0] S256x1024.size inb))
        (View.ld (Val := Elt Ideal) (e' := .f32) (scalesB x) (Rect.unit (s := S1536x128) ![o, 0] S256x128.size inb')) y
      = dxB x w u ((Rect.unit (s := S1536x512) ![o, 0] S256x512.size inb'').emb y) := by
  obtain ⟨p, q, rfl⟩ : ∃ (p : Fin 256) (q : Fin 512), y = ix2 p q := ⟨y 0, y 1, eq_ix2 y⟩
  have hlt (p : Fin 256) : o + p.val < 1536 := by have := inb 0; have := p.isLt; simp [S256x1024, S1536x1024] at *; omega
  rw [pay51_apply w u _ _ (fun p => rowScale (row x ⟨o + p.val, hlt p⟩)) (fun p q => congrArg rowScale (congrArg (row x) (Fin.ext (by
    show o + 1 * p.val = o + p.val; omega))))]
  have e0 : (Rect.unit (s := S1536x512) ![o, 0] S256x512.size inb'').emb (ix2 p q) 0 = (⟨o + p.val, hlt p⟩ : Fin 1536) :=
    Fin.ext (by show o + 1 * p.val = o + p.val; omega)
  have e1 : (Rect.unit (s := S1536x512) ![o, 0] S256x512.size inb'').emb (ix2 p q) 1 = q :=
    Fin.ext (by show 0 + 1 * q.val = q.val; omega)
  have e2 (k : Fin 1024) : View.ld (Val := Elt Ideal) (e' := .bf16) (codesB x) (Rect.unit (s := S1536x1024) ![o, 0] S256x1024.size inb) (ix2 p k)
      = codeE (rowCode (row x ⟨o + p.val, hlt p⟩) k) :=
    congrArg codeE (congr (congrArg rowCode (congrArg (row x) (Fin.ext (by show o + 1 * p.val = o + p.val; omega))))
      (Fin.ext (by show 0 + 1 * k.val = k.val; omega)))
  simp only [e2]
  unfold dxB
  rw [e0, e1]
  rfl

/-- The block of the weight gradient, stored whole. -/
theorem dw_whole (z : Vec Ideal S1536x512 .bf16) (x : Vec Ideal S1536x1024 .bf16) (inb : ∀ a, ![0, 0] a + S512x1024.size a ≤ S512x1024.size a) (y : S512x1024.Idx) :
    k0_pay1 z x y = dwB z x ((Rect.unit (s := S512x1024) ![0, 0] S512x1024.size inb).emb y) := by
  obtain ⟨p, q, rfl⟩ : ∃ (p : Fin 512) (q : Fin 1024), y = ix2 p q := ⟨y 0, y 1, eq_ix2 y⟩
  rw [pay1_apply, Rect.emb_unit_full]
  rfl

/-- A load of whole contents through a rectangle reads the contents' window. -/
theorem readAt_unread {κ : Kind} {sp : Space} {s : Shape} {e : EltTy} (m : Memref sig κ sp s e) (hm : m.IsWhole) (X : s.Idx → Elt Ideal e) (r : Rect s) :
    m.view.readAt (Elt Ideal) r.toLoadRect (hm.unread X) = View.ld X r := by
  rw [View.readAt_eq_ld, hm.read_unread]

/-- A load of the whole of it reads the contents. -/
theorem readAt_unread_full {κ : Kind} {sp : Space} {s : Shape} {e : EltTy} (m : Memref sig κ sp s e) (hm : m.IsWhole) (X : s.Idx → Elt Ideal e) {off : Fin s.rank → ℕ}
    (inb : ∀ a, off a + s.size a ≤ s.size a) : m.view.readAt (Elt Ideal) (Rect.unit off s.size inb).toLoadRect (hm.unread X) = X := by
  rw [View.readAt_full, hm.read_unread]

/-- The weight scale, loaded from its one-element buffer. -/
theorem load_scale (m : Memref sig .tc .smem S1 .f32) (hm : m.IsWhole) (X : Vec Ideal S1 .f32) (j : S1.Idx) :
    m.view.readAt (Elt Ideal) (Rect.unit ![0] S1.size inb_S1_S1_0).toLoadRect (hm.unread X) j = X (ix1 0) := by
  rw [readAt_unread_full]
  exact congrArg X (funext fun a => Fin.ext (by match a with | ⟨0, _⟩ => have := (j 0).isLt; simp [S1] at this; exact this))

end Cert.KernelIdeal.Hand

end
-- ==== Proof.Ideal.PiecesA.lean ====
/- The pieces the body stores at grid point 0, in closed form. -/
module

public import proofs.«01_k».proof.Proof.Ideal.RunA
public import proofs.«01_k».proof.Proof.Ideal.Closed

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.Tactic

/-- The stored codes. -/
theorem codes_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec Ideal S1 .f32) (x1 : Vec Ideal S1536x512 .bf16) (x2 : Vec Ideal S1536x1024 .bf16) (x3 : Vec Ideal S512x1024 .i8) {κ : Kind} {sp : Space} (v : View sig κ sp S1536x1024 .i8) (f : v.ty.Contents (Elt Ideal)) :
    v.read (Elt Ideal) (v.writes (Elt Ideal) f (runA (F := Ideal) c i arg1 harg1 arg2 harg2 arg3 harg3 arg4 harg4 arg5 harg5 arg6 harg6 arg7 harg7 arg8 harg8 arg9 harg9 arg10 harg10 hc0 x0 x1 x2 x3).2.2.1) = codes x2 := by
  have hcov : ∀ y, ∃ p ∈ (runA (F := Ideal) c i arg1 harg1 arg2 harg2 arg3 harg3 arg4 harg4 arg5 harg5 arg6 harg6 arg7 harg7 arg8 harg8 arg9 harg9 arg10 harg10 hc0 x0 x1 x2 x3).2.2.1, y ∈ p.1.set := by
    intro y
    exact View.cover_of_tiledL (s := S1536x1024) _ ![256, 1024] (by sl_kernel_rfl) y
  funext y
  refine View.read_writes_apply_of_pieces v f (codes x2) _ ?_ y (hcov y)
  unfold runA
  dsimp only
  intro p hp
  simp only [List.mem_cons, List.not_mem_nil, or_false] at hp
  rcases hp with rfl | rfl | rfl | rfl | rfl | rfl
  · intro y; dsimp only; exact (congrFun ((codes_5 (View.readAt (Elt Ideal) arg3.view (Rect.unit (s := S1536x1024) ![1280, 0] S256x1024.size inb_S1536x1024_S256x1024_1280_0).toLoadRect (harg3.unread x2))).trans (congrArg k0_pay4 (readAt_unread arg3 harg3 x2 _))) y).trans (codes_chunk x2 1280 inb_S1536x1024_S256x1024_1280_0 y)
  · intro y; dsimp only; exact (congrFun ((codes_4 (View.readAt (Elt Ideal) arg3.view (Rect.unit (s := S1536x1024) ![1024, 0] S256x1024.size inb_S1536x1024_S256x1024_1024_0).toLoadRect (harg3.unread x2))).trans (congrArg k0_pay4 (readAt_unread arg3 harg3 x2 _))) y).trans (codes_chunk x2 1024 inb_S1536x1024_S256x1024_1024_0 y)
  · intro y; dsimp only; exact (congrFun ((codes_3 (View.readAt (Elt Ideal) arg3.view (Rect.unit (s := S1536x1024) ![768, 0] S256x1024.size inb_S1536x1024_S256x1024_768_0).toLoadRect (harg3.unread x2))).trans (congrArg k0_pay4 (readAt_unread arg3 harg3 x2 _))) y).trans (codes_chunk x2 768 inb_S1536x1024_S256x1024_768_0 y)
  · intro y; dsimp only; exact (congrFun ((codes_2 (View.readAt (Elt Ideal) arg3.view (Rect.unit (s := S1536x1024) ![512, 0] S256x1024.size inb_S1536x1024_S256x1024_512_0).toLoadRect (harg3.unread x2))).trans (congrArg k0_pay4 (readAt_unread arg3 harg3 x2 _))) y).trans (codes_chunk x2 512 inb_S1536x1024_S256x1024_512_0 y)
  · intro y; dsimp only; exact (congrFun ((codes_1 (View.readAt (Elt Ideal) arg3.view (Rect.unit (s := S1536x1024) ![256, 0] S256x1024.size inb_S1536x1024_S256x1024_256_0).toLoadRect (harg3.unread x2))).trans (congrArg k0_pay4 (readAt_unread arg3 harg3 x2 _))) y).trans (codes_chunk x2 256 inb_S1536x1024_S256x1024_256_0 y)
  · intro y; dsimp only; exact (congrFun ((congrArg k0_pay4 (readAt_unread arg3 harg3 x2 _))) y).trans (codes_chunk x2 0 inb_S1536x1024_S256x1024_0_0 y)

/-- The stored scales. -/
theorem scales_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec Ideal S1 .f32) (x1 : Vec Ideal S1536x512 .bf16) (x2 : Vec Ideal S1536x1024 .bf16) (x3 : Vec Ideal S512x1024 .i8) {κ : Kind} {sp : Space} (v : View sig κ sp S6x256 .f32) (f : v.ty.Contents (Elt Ideal)) :
    v.read (Elt Ideal) (v.writes (Elt Ideal) f (runA (F := Ideal) c i arg1 harg1 arg2 harg2 arg3 harg3 arg4 harg4 arg5 harg5 arg6 harg6 arg7 harg7 arg8 harg8 arg9 harg9 arg10 harg10 hc0 x0 x1 x2 x3).2.2.2.1) = scales x2 := by
  have hcov : ∀ y, ∃ p ∈ (runA (F := Ideal) c i arg1 harg1 arg2 harg2 arg3 harg3 arg4 harg4 arg5 harg5 arg6 harg6 arg7 harg7 arg8 harg8 arg9 harg9 arg10 harg10 hc0 x0 x1 x2 x3).2.2.2.1, y ∈ p.1.set := by
    intro y
    exact View.cover_of_tiledL (s := S6x256) _ ![1, 256] (by sl_kernel_rfl) y
  funext y
  refine View.read_writes_apply_of_pieces v f (scales x2) _ ?_ y (hcov y)
  unfold runA
  dsimp only
  intro p hp
  simp only [List.mem_cons, List.not_mem_nil, or_false] at hp
  rcases hp with rfl | rfl | rfl | rfl | rfl | rfl
  · intro y; dsimp only; exact (congrFun ((scales_5 (View.readAt (Elt Ideal) arg3.view (Rect.unit (s := S1536x1024) ![1280, 0] S256x1024.size inb_S1536x1024_S256x1024_1280_0).toLoadRect (harg3.unread x2))).trans (congrArg k0_pay8 (readAt_unread arg3 harg3 x2 _))) y).trans (scales_chunk x2 1280 5 rfl inb_S1536x1024_S256x1024_1280_0 inb_S6x256_S1x256_5_0 y)
  · intro y; dsimp only; exact (congrFun ((scales_4 (View.readAt (Elt Ideal) arg3.view (Rect.unit (s := S1536x1024) ![1024, 0] S256x1024.size inb_S1536x1024_S256x1024_1024_0).toLoadRect (harg3.unread x2))).trans (congrArg k0_pay8 (readAt_unread arg3 harg3 x2 _))) y).trans (scales_chunk x2 1024 4 rfl inb_S1536x1024_S256x1024_1024_0 inb_S6x256_S1x256_4_0 y)
  · intro y; dsimp only; exact (congrFun ((scales_3 (View.readAt (Elt Ideal) arg3.view (Rect.unit (s := S1536x1024) ![768, 0] S256x1024.size inb_S1536x1024_S256x1024_768_0).toLoadRect (harg3.unread x2))).trans (congrArg k0_pay8 (readAt_unread arg3 harg3 x2 _))) y).trans (scales_chunk x2 768 3 rfl inb_S1536x1024_S256x1024_768_0 inb_S6x256_S1x256_3_0 y)
  · intro y; dsimp only; exact (congrFun ((scales_2 (View.readAt (Elt Ideal) arg3.view (Rect.unit (s := S1536x1024) ![512, 0] S256x1024.size inb_S1536x1024_S256x1024_512_0).toLoadRect (harg3.unread x2))).trans (congrArg k0_pay8 (readAt_unread arg3 harg3 x2 _))) y).trans (scales_chunk x2 512 2 rfl inb_S1536x1024_S256x1024_512_0 inb_S6x256_S1x256_2_0 y)
  · intro y; dsimp only; exact (congrFun ((scales_1 (View.readAt (Elt Ideal) arg3.view (Rect.unit (s := S1536x1024) ![256, 0] S256x1024.size inb_S1536x1024_S256x1024_256_0).toLoadRect (harg3.unread x2))).trans (congrArg k0_pay8 (readAt_unread arg3 harg3 x2 _))) y).trans (scales_chunk x2 256 1 rfl inb_S1536x1024_S256x1024_256_0 inb_S6x256_S1x256_1_0 y)
  · intro y; dsimp only; exact (congrFun ((congrArg k0_pay8 (readAt_unread arg3 harg3 x2 _))) y).trans (scales_chunk x2 0 0 rfl inb_S1536x1024_S256x1024_0_0 inb_S6x256_S1x256_0_0 y)

/-- The codes kept for every point. -/
theorem codesB_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec Ideal S1 .f32) (x1 : Vec Ideal S1536x512 .bf16) (x2 : Vec Ideal S1536x1024 .bf16) (x3 : Vec Ideal S512x1024 .i8) {κ : Kind} {sp : Space} (v : View sig κ sp S1536x1024 .bf16) (f : v.ty.Contents (Elt Ideal)) :
    v.read (Elt Ideal) (v.writes (Elt Ideal) f (runA (F := Ideal) c i arg1 harg1 arg2 harg2 arg3 harg3 arg4 harg4 arg5 harg5 arg6 harg6 arg7 harg7 arg8 harg8 arg9 harg9 arg10 harg10 hc0 x0 x1 x2 x3).2.2.2.2.1) = codesB x2 := by
  have hcov : ∀ y, ∃ p ∈ (runA (F := Ideal) c i arg1 harg1 arg2 harg2 arg3 harg3 arg4 harg4 arg5 harg5 arg6 harg6 arg7 harg7 arg8 harg8 arg9 harg9 arg10 harg10 hc0 x0 x1 x2 x3).2.2.2.2.1, y ∈ p.1.set := by
    intro y
    exact View.cover_of_tiledL (s := S1536x1024) _ ![256, 1024] (by sl_kernel_rfl) y
  funext y
  refine View.read_writes_apply_of_pieces v f (codesB x2) _ ?_ y (hcov y)
  unfold runA
  dsimp only
  unfold runA.sl.HS0_6
  intro p hp
  simp only [List.mem_cons, List.not_mem_nil, or_false] at hp
  rcases hp with rfl | rfl | rfl | rfl | rfl | rfl
  · intro y; dsimp only; exact (congrFun ((codesB_5 (View.readAt (Elt Ideal) arg3.view (Rect.unit (s := S1536x1024) ![1280, 0] S256x1024.size inb_S1536x1024_S256x1024_1280_0).toLoadRect (harg3.unread x2))).trans (congrArg k0_pay5 (readAt_unread arg3 harg3 x2 _))) y).trans (codesB_chunk x2 1280 inb_S1536x1024_S256x1024_1280_0 y)
  · intro y; dsimp only; exact (congrFun ((codesB_4 (View.readAt (Elt Ideal) arg3.view (Rect.unit (s := S1536x1024) ![1024, 0] S256x1024.size inb_S1536x1024_S256x1024_1024_0).toLoadRect (harg3.unread x2))).trans (congrArg k0_pay5 (readAt_unread arg3 harg3 x2 _))) y).trans (codesB_chunk x2 1024 inb_S1536x1024_S256x1024_1024_0 y)
  · intro y; dsimp only; exact (congrFun ((codesB_3 (View.readAt (Elt Ideal) arg3.view (Rect.unit (s := S1536x1024) ![768, 0] S256x1024.size inb_S1536x1024_S256x1024_768_0).toLoadRect (harg3.unread x2))).trans (congrArg k0_pay5 (readAt_unread arg3 harg3 x2 _))) y).trans (codesB_chunk x2 768 inb_S1536x1024_S256x1024_768_0 y)
  · intro y; dsimp only; exact (congrFun ((codesB_2 (View.readAt (Elt Ideal) arg3.view (Rect.unit (s := S1536x1024) ![512, 0] S256x1024.size inb_S1536x1024_S256x1024_512_0).toLoadRect (harg3.unread x2))).trans (congrArg k0_pay5 (readAt_unread arg3 harg3 x2 _))) y).trans (codesB_chunk x2 512 inb_S1536x1024_S256x1024_512_0 y)
  · intro y; dsimp only; exact (congrFun ((codesB_1 (View.readAt (Elt Ideal) arg3.view (Rect.unit (s := S1536x1024) ![256, 0] S256x1024.size inb_S1536x1024_S256x1024_256_0).toLoadRect (harg3.unread x2))).trans (congrArg k0_pay5 (readAt_unread arg3 harg3 x2 _))) y).trans (codesB_chunk x2 256 inb_S1536x1024_S256x1024_256_0 y)
  · intro y; dsimp only; exact (congrFun ((congrArg k0_pay5 (readAt_unread arg3 harg3 x2 _))) y).trans (codesB_chunk x2 0 inb_S1536x1024_S256x1024_0_0 y)

/-- The scales kept for every point. -/
theorem scalesB_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec Ideal S1 .f32) (x1 : Vec Ideal S1536x512 .bf16) (x2 : Vec Ideal S1536x1024 .bf16) (x3 : Vec Ideal S512x1024 .i8) {κ : Kind} {sp : Space} (v : View sig κ sp S1536x128 .f32) (f : v.ty.Contents (Elt Ideal)) :
    v.read (Elt Ideal) (v.writes (Elt Ideal) f (runA (F := Ideal) c i arg1 harg1 arg2 harg2 arg3 harg3 arg4 harg4 arg5 harg5 arg6 harg6 arg7 harg7 arg8 harg8 arg9 harg9 arg10 harg10 hc0 x0 x1 x2 x3).2.2.2.2.2.val) = scalesB x2 := by
  have hcov : ∀ y, ∃ p ∈ (runA (F := Ideal) c i arg1 harg1 arg2 harg2 arg3 harg3 arg4 harg4 arg5 harg5 arg6 harg6 arg7 harg7 arg8 harg8 arg9 harg9 arg10 harg10 hc0 x0 x1 x2 x3).2.2.2.2.2.val, y ∈ p.1.set := by
    intro y
    exact View.cover_of_tiledL (s := S1536x128) _ ![256, 128] (by sl_kernel_rfl) y
  funext y
  refine View.read_writes_apply_of_pieces v f (scalesB x2) _ ?_ y (hcov y)
  unfold runA
  dsimp only
  unfold runA.sl.HS1_6
  intro p hp
  simp only [List.mem_cons, List.not_mem_nil, or_false] at hp
  rcases hp with rfl | rfl | rfl | rfl | rfl | rfl
  · intro y; dsimp only; exact (congrFun ((scalesB_5 (View.readAt (Elt Ideal) arg3.view (Rect.unit (s := S1536x1024) ![1280, 0] S256x1024.size inb_S1536x1024_S256x1024_1280_0).toLoadRect (harg3.unread x2))).trans (congrArg k0_pay7 (readAt_unread arg3 harg3 x2 _))) y).trans (scalesB_chunk x2 1280 inb_S1536x1024_S256x1024_1280_0 inb_S1536x128_S256x128_1280_0 y)
  · intro y; dsimp only; exact (congrFun ((scalesB_4 (View.readAt (Elt Ideal) arg3.view (Rect.unit (s := S1536x1024) ![1024, 0] S256x1024.size inb_S1536x1024_S256x1024_1024_0).toLoadRect (harg3.unread x2))).trans (congrArg k0_pay7 (readAt_unread arg3 harg3 x2 _))) y).trans (scalesB_chunk x2 1024 inb_S1536x1024_S256x1024_1024_0 inb_S1536x128_S256x128_1024_0 y)
  · intro y; dsimp only; exact (congrFun ((scalesB_3 (View.readAt (Elt Ideal) arg3.view (Rect.unit (s := S1536x1024) ![768, 0] S256x1024.size inb_S1536x1024_S256x1024_768_0).toLoadRect (harg3.unread x2))).trans (congrArg k0_pay7 (readAt_unread arg3 harg3 x2 _))) y).trans (scalesB_chunk x2 768 inb_S1536x1024_S256x1024_768_0 inb_S1536x128_S256x128_768_0 y)
  · intro y; dsimp only; exact (congrFun ((scalesB_2 (View.readAt (Elt Ideal) arg3.view (Rect.unit (s := S1536x1024) ![512, 0] S256x1024.size inb_S1536x1024_S256x1024_512_0).toLoadRect (harg3.unread x2))).trans (congrArg k0_pay7 (readAt_unread arg3 harg3 x2 _))) y).trans (scalesB_chunk x2 512 inb_S1536x1024_S256x1024_512_0 inb_S1536x128_S256x128_512_0 y)
  · intro y; dsimp only; exact (congrFun ((scalesB_1 (View.readAt (Elt Ideal) arg3.view (Rect.unit (s := S1536x1024) ![256, 0] S256x1024.size inb_S1536x1024_S256x1024_256_0).toLoadRect (harg3.unread x2))).trans (congrArg k0_pay7 (readAt_unread arg3 harg3 x2 _))) y).trans (scalesB_chunk x2 256 inb_S1536x1024_S256x1024_256_0 inb_S1536x128_S256x128_256_0 y)
  · intro y; dsimp only; exact (congrFun ((congrArg k0_pay7 (readAt_unread arg3 harg3 x2 _))) y).trans (scalesB_chunk x2 0 inb_S1536x1024_S256x1024_0_0 inb_S1536x128_S256x128_0_0 y)

/-- The stored block of the input gradient. -/
theorem dx_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec Ideal S1 .f32) (x1 : Vec Ideal S1536x512 .bf16) (x2 : Vec Ideal S1536x1024 .bf16) (x3 : Vec Ideal S512x1024 .i8) {κ : Kind} {sp : Space} (v : View sig κ sp S1536x512 .bf16) (f : v.ty.Contents (Elt Ideal)) :
    v.read (Elt Ideal) (v.writes (Elt Ideal) f (runA (F := Ideal) c i arg1 harg1 arg2 harg2 arg3 harg3 arg4 harg4 arg5 harg5 arg6 harg6 arg7 harg7 arg8 harg8 arg9 harg9 arg10 harg10 hc0 x0 x1 x2 x3).1) = dxB x2 x3 (x0 (ix1 0)) := by
  have hcov : ∀ y, ∃ p ∈ (runA (F := Ideal) c i arg1 harg1 arg2 harg2 arg3 harg3 arg4 harg4 arg5 harg5 arg6 harg6 arg7 harg7 arg8 harg8 arg9 harg9 arg10 harg10 hc0 x0 x1 x2 x3).1, y ∈ p.1.set := by
    intro y
    exact View.cover_of_tiledL (s := S1536x512) _ ![256, 512] (by sl_kernel_rfl) y
  have h9 : ∀ r : Rect S1536x1024, arg9.view.readCov (runA (F := Ideal) c i arg1 harg1 arg2 harg2 arg3 harg3 arg4 harg4 arg5 harg5 arg6 harg6 arg7 harg7 arg8 harg8 arg9 harg9 arg10 harg10 hc0 x0 x1 x2 x3).2.2.2.2.1 r.toLoadRect = View.ld (codesB x2) r := fun r =>
    congrArg (fun X => View.ld (Val := Elt Ideal) (e' := .bf16) X r) (codesB_A c i arg1 harg1 arg2 harg2 arg3 harg3 arg4 harg4 arg5 harg5 arg6 harg6 arg7 harg7 arg8 harg8 arg9 harg9 arg10 harg10 hc0 x0 x1 x2 x3 arg9.view arg9.view.junk)
  have h10 : ∀ r : Rect S1536x128, arg10.view.readCov (runA (F := Ideal) c i arg1 harg1 arg2 harg2 arg3 harg3 arg4 harg4 arg5 harg5 arg6 harg6 arg7 harg7 arg8 harg8 arg9 harg9 arg10 harg10 hc0 x0 x1 x2 x3).2.2.2.2.2.val r.toLoadRect = View.ld (scalesB x2) r := fun r =>
    congrArg (fun X => View.ld (Val := Elt Ideal) (e' := .f32) X r) (scalesB_A c i arg1 harg1 arg2 harg2 arg3 harg3 arg4 harg4 arg5 harg5 arg6 harg6 arg7 harg7 arg8 harg8 arg9 harg9 arg10 harg10 hc0 x0 x1 x2 x3 arg10.view arg10.view.junk)
  funext y
  refine View.read_writes_apply_of_pieces v f (dxB x2 x3 (x0 (ix1 0))) _ ?_ y (hcov y)
  unfold runA
  dsimp only
  intro p hp
  simp only [List.mem_cons, List.not_mem_nil, or_false] at hp
  rcases hp with rfl | rfl | rfl | rfl | rfl | rfl
  · intro y; dsimp only; exact (congrFun ((dx_5 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (arg9.view.readCov (runA (F := Ideal) c i arg1 harg1 arg2 harg2 arg3 harg3 arg4 harg4 arg5 harg5 arg6 harg6 arg7 harg7 arg8 harg8 arg9 harg9 arg10 harg10 hc0 x0 x1 x2 x3).2.2.2.2.1 (Rect.unit (s := S1536x1024) ![1280, 0] S256x1024.size inb_S1536x1024_S256x1024_1280_0).toLoadRect) (arg10.view.readCov (runA (F := Ideal) c i arg1 harg1 arg2 harg2 arg3 harg3 arg4 harg4 arg5 harg5 arg6 harg6 arg7 harg7 arg8 harg8 arg9 harg9 arg10 harg10 hc0 x0 x1 x2 x3).2.2.2.2.2.val (Rect.unit (s := S1536x128) ![1280, 0] S256x128.size inb_S1536x128_S256x128_1280_0).toLoadRect)).trans (congr (congr (congr (congrArg k0_pay51 (readAt_unread_full arg4 harg4 x3 inb_S512x1024_S512x1024_0_0)) (load_scale arg1 harg1 x0 (Shape.Idx.first (by decide)))) (h9 (Rect.unit (s := S1536x1024) ![1280, 0] S256x1024.size inb_S1536x1024_S256x1024_1280_0))) (h10 (Rect.unit (s := S1536x128) ![1280, 0] S256x128.size inb_S1536x128_S256x128_1280_0)))) y).trans (dx_chunk x2 x3 (x0 (ix1 0)) 1280 inb_S1536x1024_S256x1024_1280_0 inb_S1536x128_S256x128_1280_0 inb_S1536x512_S256x512_1280_0 y)
  · intro y; dsimp only; exact (congrFun ((dx_4 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (arg9.view.readCov (runA (F := Ideal) c i arg1 harg1 arg2 harg2 arg3 harg3 arg4 harg4 arg5 harg5 arg6 harg6 arg7 harg7 arg8 harg8 arg9 harg9 arg10 harg10 hc0 x0 x1 x2 x3).2.2.2.2.1 (Rect.unit (s := S1536x1024) ![1024, 0] S256x1024.size inb_S1536x1024_S256x1024_1024_0).toLoadRect) (arg10.view.readCov (runA (F := Ideal) c i arg1 harg1 arg2 harg2 arg3 harg3 arg4 harg4 arg5 harg5 arg6 harg6 arg7 harg7 arg8 harg8 arg9 harg9 arg10 harg10 hc0 x0 x1 x2 x3).2.2.2.2.2.val (Rect.unit (s := S1536x128) ![1024, 0] S256x128.size inb_S1536x128_S256x128_1024_0).toLoadRect)).trans (congr (congr (congr (congrArg k0_pay51 (readAt_unread_full arg4 harg4 x3 inb_S512x1024_S512x1024_0_0)) (load_scale arg1 harg1 x0 (Shape.Idx.first (by decide)))) (h9 (Rect.unit (s := S1536x1024) ![1024, 0] S256x1024.size inb_S1536x1024_S256x1024_1024_0))) (h10 (Rect.unit (s := S1536x128) ![1024, 0] S256x128.size inb_S1536x128_S256x128_1024_0)))) y).trans (dx_chunk x2 x3 (x0 (ix1 0)) 1024 inb_S1536x1024_S256x1024_1024_0 inb_S1536x128_S256x128_1024_0 inb_S1536x512_S256x512_1024_0 y)
  · intro y; dsimp only; exact (congrFun ((dx_3 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (arg9.view.readCov (runA (F := Ideal) c i arg1 harg1 arg2 harg2 arg3 harg3 arg4 harg4 arg5 harg5 arg6 harg6 arg7 harg7 arg8 harg8 arg9 harg9 arg10 harg10 hc0 x0 x1 x2 x3).2.2.2.2.1 (Rect.unit (s := S1536x1024) ![768, 0] S256x1024.size inb_S1536x1024_S256x1024_768_0).toLoadRect) (arg10.view.readCov (runA (F := Ideal) c i arg1 harg1 arg2 harg2 arg3 harg3 arg4 harg4 arg5 harg5 arg6 harg6 arg7 harg7 arg8 harg8 arg9 harg9 arg10 harg10 hc0 x0 x1 x2 x3).2.2.2.2.2.val (Rect.unit (s := S1536x128) ![768, 0] S256x128.size inb_S1536x128_S256x128_768_0).toLoadRect)).trans (congr (congr (congr (congrArg k0_pay51 (readAt_unread_full arg4 harg4 x3 inb_S512x1024_S512x1024_0_0)) (load_scale arg1 harg1 x0 (Shape.Idx.first (by decide)))) (h9 (Rect.unit (s := S1536x1024) ![768, 0] S256x1024.size inb_S1536x1024_S256x1024_768_0))) (h10 (Rect.unit (s := S1536x128) ![768, 0] S256x128.size inb_S1536x128_S256x128_768_0)))) y).trans (dx_chunk x2 x3 (x0 (ix1 0)) 768 inb_S1536x1024_S256x1024_768_0 inb_S1536x128_S256x128_768_0 inb_S1536x512_S256x512_768_0 y)
  · intro y; dsimp only; exact (congrFun ((dx_2 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (arg9.view.readCov (runA (F := Ideal) c i arg1 harg1 arg2 harg2 arg3 harg3 arg4 harg4 arg5 harg5 arg6 harg6 arg7 harg7 arg8 harg8 arg9 harg9 arg10 harg10 hc0 x0 x1 x2 x3).2.2.2.2.1 (Rect.unit (s := S1536x1024) ![512, 0] S256x1024.size inb_S1536x1024_S256x1024_512_0).toLoadRect) (arg10.view.readCov (runA (F := Ideal) c i arg1 harg1 arg2 harg2 arg3 harg3 arg4 harg4 arg5 harg5 arg6 harg6 arg7 harg7 arg8 harg8 arg9 harg9 arg10 harg10 hc0 x0 x1 x2 x3).2.2.2.2.2.val (Rect.unit (s := S1536x128) ![512, 0] S256x128.size inb_S1536x128_S256x128_512_0).toLoadRect)).trans (congr (congr (congr (congrArg k0_pay51 (readAt_unread_full arg4 harg4 x3 inb_S512x1024_S512x1024_0_0)) (load_scale arg1 harg1 x0 (Shape.Idx.first (by decide)))) (h9 (Rect.unit (s := S1536x1024) ![512, 0] S256x1024.size inb_S1536x1024_S256x1024_512_0))) (h10 (Rect.unit (s := S1536x128) ![512, 0] S256x128.size inb_S1536x128_S256x128_512_0)))) y).trans (dx_chunk x2 x3 (x0 (ix1 0)) 512 inb_S1536x1024_S256x1024_512_0 inb_S1536x128_S256x128_512_0 inb_S1536x512_S256x512_512_0 y)
  · intro y; dsimp only; exact (congrFun ((dx_1 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (arg9.view.readCov (runA (F := Ideal) c i arg1 harg1 arg2 harg2 arg3 harg3 arg4 harg4 arg5 harg5 arg6 harg6 arg7 harg7 arg8 harg8 arg9 harg9 arg10 harg10 hc0 x0 x1 x2 x3).2.2.2.2.1 (Rect.unit (s := S1536x1024) ![256, 0] S256x1024.size inb_S1536x1024_S256x1024_256_0).toLoadRect) (arg10.view.readCov (runA (F := Ideal) c i arg1 harg1 arg2 harg2 arg3 harg3 arg4 harg4 arg5 harg5 arg6 harg6 arg7 harg7 arg8 harg8 arg9 harg9 arg10 harg10 hc0 x0 x1 x2 x3).2.2.2.2.2.val (Rect.unit (s := S1536x128) ![256, 0] S256x128.size inb_S1536x128_S256x128_256_0).toLoadRect)).trans (congr (congr (congr (congrArg k0_pay51 (readAt_unread_full arg4 harg4 x3 inb_S512x1024_S512x1024_0_0)) (load_scale arg1 harg1 x0 (Shape.Idx.first (by decide)))) (h9 (Rect.unit (s := S1536x1024) ![256, 0] S256x1024.size inb_S1536x1024_S256x1024_256_0))) (h10 (Rect.unit (s := S1536x128) ![256, 0] S256x128.size inb_S1536x128_S256x128_256_0)))) y).trans (dx_chunk x2 x3 (x0 (ix1 0)) 256 inb_S1536x1024_S256x1024_256_0 inb_S1536x128_S256x128_256_0 inb_S1536x512_S256x512_256_0 y)
  · intro y; dsimp only; exact (congrFun ((congr (congr (congr (congrArg k0_pay51 (readAt_unread_full arg4 harg4 x3 inb_S512x1024_S512x1024_0_0)) (load_scale arg1 harg1 x0 (Shape.Idx.first (by decide)))) (h9 (Rect.unit (s := S1536x1024) ![0, 0] S256x1024.size inb_S1536x1024_S256x1024_0_0))) (h10 (Rect.unit (s := S1536x128) ![0, 0] S256x128.size inb_S1536x128_S256x128_0_0)))) y).trans (dx_chunk x2 x3 (x0 (ix1 0)) 0 inb_S1536x1024_S256x1024_0_0 inb_S1536x128_S256x128_0_0 inb_S1536x512_S256x512_0_0 y)

/-- The stored block of the weight gradient. -/
theorem dw_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec Ideal S1 .f32) (x1 : Vec Ideal S1536x512 .bf16) (x2 : Vec Ideal S1536x1024 .bf16) (x3 : Vec Ideal S512x1024 .i8) {κ : Kind} {sp : Space} (v : View sig κ sp S512x1024 .f32) (f : v.ty.Contents (Elt Ideal)) :
    v.read (Elt Ideal) (v.writes (Elt Ideal) f (runA (F := Ideal) c i arg1 harg1 arg2 harg2 arg3 harg3 arg4 harg4 arg5 harg5 arg6 harg6 arg7 harg7 arg8 harg8 arg9 harg9 arg10 harg10 hc0 x0 x1 x2 x3).2.1) = dwB x1 x2 := by
  have hcov : ∀ y, ∃ p ∈ (runA (F := Ideal) c i arg1 harg1 arg2 harg2 arg3 harg3 arg4 harg4 arg5 harg5 arg6 harg6 arg7 harg7 arg8 harg8 arg9 harg9 arg10 harg10 hc0 x0 x1 x2 x3).2.1, y ∈ p.1.set := by
    intro y
    exact View.cover_of_tiledL (s := S512x1024) _ ![512, 1024] (by sl_kernel_rfl) y
  funext y
  refine View.read_writes_apply_of_pieces v f (dwB x1 x2) _ ?_ y (hcov y)
  unfold runA
  dsimp only
  intro p hp
  simp only [List.mem_cons, List.not_mem_nil, or_false] at hp
  rcases hp with rfl
  · intro y; dsimp only; exact (congrFun (congr (congrArg k0_pay1 ((pay57_gen _).trans (readAt_unread_full arg2 harg2 x1 inb_S1536x512_S1536x512_0_0))) (readAt_unread_full arg3 harg3 x2 inb_S1536x1024_S1536x1024_0_0)) y).trans (dw_whole x1 x2 inb_S512x1024_S512x1024_0_0 y)

end Cert.KernelIdeal.Hand

end
-- ==== Proof.Ideal.RunB.lean ====
/- The body of the kernel at the grid points 1 … 5, run: what its stores leave in the two blocks it writes there, as lists of
   pieces. The run finds the pieces; `Ideal/PiecesB.lean` gives them closed forms. -/
module

public import proofs.«01_k».proof.Proof.Gen.KernelIdeal.Frame
public import proofs.«01_k».proof.Proof.Gen.KernelIdeal.Skeleton
public import proofs.«01_k».proof.Proof.Ideal.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 1000000 in
/-- The grid points after 0 (`hc0`: the quantiser does not run). On whole operands, the four inputs at `x0 … x3`, the two scratch
    buffers at `xs0`, `xs1` and the two block outputs at anything, the body ends with the inputs and the scratch as they
    were and the two block outputs with the found pieces written (last first); it touches neither the codes' nor the scales' output. -/
noncomputable def runB (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : ¬cond0 i)
    (x0 : Vec F S1 .f32) (x1 : Vec F S1536x512 .bf16) (x2 : Vec F S1536x1024 .bf16) (x3 : Vec F S512x1024 .i8) (xs0 : Vec F S1536x1024 .bf16) (xs1 : Vec F S1536x128 .f32) :
    Σ' (L4 : List (View.Piece (Elt F) S1536x512 .bf16)), { L5 : List (View.Piece (Elt F) S512x1024 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg9 fullShare xs0 ∗ owns (c : Thread nD τ) arg10 fullShare xs1
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f L5) ∗ owns (c : Thread nD τ) arg9 fullShare xs0 ∗ owns (c : Thread nD τ) arg10 fullShare xs1) -∗ K ⟨⟩))
          ⊢ wp frame (wpE (defs₀ (F := F)) Variants.none c none) E (cc0_switchback_bwd i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc0_switchback_bwd_eq_skeleton]; unfold cc0_switchback_bwd_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg9.eq_unread hfs0; obtain rfl := harg10.eq_unread hfs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    isplitl [H5]; · iexists _; iexact H5
    isplitl [HS0]
    · iexists _; isplitr; · ipureintro; exact harg9.read_unread _
      iexact HS0
    iexists _; isplitr; · ipureintro; exact harg10.read_unread _
    iexact HS1

end Cert.KernelIdeal.Hand

end
-- ==== Proof.Ideal.PiecesB.lean ====
/- The pieces the body stores at a later grid point, in closed form: the kept codes and scales are those of the gradient. -/
module

public import proofs.«01_k».proof.Proof.Ideal.RunB
public import proofs.«01_k».proof.Proof.Ideal.Closed

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.Tactic

/-- The stored block of the input gradient. -/
theorem dx_B (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : ¬cond0 i)
    (x0 : Vec Ideal S1 .f32) (x1 : Vec Ideal S1536x512 .bf16) (x2 : Vec Ideal S1536x1024 .bf16) (x3 : Vec Ideal S512x1024 .i8) (xs0 : Vec Ideal S1536x1024 .bf16) (xs1 : Vec Ideal S1536x128 .f32)
    (hs0 : xs0 = codesB x2) (hs1 : xs1 = scalesB x2) {κ : Kind} {sp : Space} (v : View sig κ sp S1536x512 .bf16) (f : v.ty.Contents (Elt Ideal)) :
    v.read (Elt Ideal) (v.writes (Elt Ideal) f (runB (F := Ideal) c i arg1 harg1 arg2 harg2 arg3 harg3 arg4 harg4 arg5 harg5 arg6 harg6 arg7 harg7 arg8 harg8 arg9 harg9 arg10 harg10 hc0 x0 x1 x2 x3 xs0 xs1).1) = dxB x2 x3 (x0 (ix1 0)) := by
  have hcov : ∀ y, ∃ p ∈ (runB (F := Ideal) c i arg1 harg1 arg2 harg2 arg3 harg3 arg4 harg4 arg5 harg5 arg6 harg6 arg7 harg7 arg8 harg8 arg9 harg9 arg10 harg10 hc0 x0 x1 x2 x3 xs0 xs1).1, y ∈ p.1.set := by
    intro y
    exact View.cover_of_tiledL (s := S1536x512) _ ![256, 512] (by sl_kernel_rfl) y
  have h9 : ∀ r : Rect S1536x1024, View.readAt (Elt Ideal) arg9.view r.toLoadRect (harg9.unread xs0) = View.ld (codesB x2) r := fun r => by
    rw [readAt_unread, hs0]
  have h10 : ∀ r : Rect S1536x128, View.readAt (Elt Ideal) arg10.view r.toLoadRect (harg10.unread xs1) = View.ld (scalesB x2) r := fun r => by
    rw [readAt_unread, hs1]
  funext y
  refine View.read_writes_apply_of_pieces v f (dxB x2 x3 (x0 (ix1 0))) _ ?_ y (hcov y)
  unfold runB
  dsimp only
  intro p hp
  simp only [List.mem_cons, List.not_mem_nil, or_false] at hp
  rcases hp with rfl | rfl | rfl | rfl | rfl | rfl
  · intro y; dsimp only; exact (congrFun ((dx_5 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (View.readAt (Elt Ideal) arg9.view (Rect.unit (s := S1536x1024) ![1280, 0] S256x1024.size inb_S1536x1024_S256x1024_1280_0).toLoadRect (harg9.unread xs0)) (View.readAt (Elt Ideal) arg10.view (Rect.unit (s := S1536x128) ![1280, 0] S256x128.size inb_S1536x128_S256x128_1280_0).toLoadRect (harg10.unread xs1))).trans (congr (congr (congr (congrArg k0_pay51 (readAt_unread_full arg4 harg4 x3 inb_S512x1024_S512x1024_0_0)) (load_scale arg1 harg1 x0 (Shape.Idx.first (by decide)))) (h9 (Rect.unit (s := S1536x1024) ![1280, 0] S256x1024.size inb_S1536x1024_S256x1024_1280_0))) (h10 (Rect.unit (s := S1536x128) ![1280, 0] S256x128.size inb_S1536x128_S256x128_1280_0)))) y).trans (dx_chunk x2 x3 (x0 (ix1 0)) 1280 inb_S1536x1024_S256x1024_1280_0 inb_S1536x128_S256x128_1280_0 inb_S1536x512_S256x512_1280_0 y)
  · intro y; dsimp only; exact (congrFun ((dx_4 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (View.readAt (Elt Ideal) arg9.view (Rect.unit (s := S1536x1024) ![1024, 0] S256x1024.size inb_S1536x1024_S256x1024_1024_0).toLoadRect (harg9.unread xs0)) (View.readAt (Elt Ideal) arg10.view (Rect.unit (s := S1536x128) ![1024, 0] S256x128.size inb_S1536x128_S256x128_1024_0).toLoadRect (harg10.unread xs1))).trans (congr (congr (congr (congrArg k0_pay51 (readAt_unread_full arg4 harg4 x3 inb_S512x1024_S512x1024_0_0)) (load_scale arg1 harg1 x0 (Shape.Idx.first (by decide)))) (h9 (Rect.unit (s := S1536x1024) ![1024, 0] S256x1024.size inb_S1536x1024_S256x1024_1024_0))) (h10 (Rect.unit (s := S1536x128) ![1024, 0] S256x128.size inb_S1536x128_S256x128_1024_0)))) y).trans (dx_chunk x2 x3 (x0 (ix1 0)) 1024 inb_S1536x1024_S256x1024_1024_0 inb_S1536x128_S256x128_1024_0 inb_S1536x512_S256x512_1024_0 y)
  · intro y; dsimp only; exact (congrFun ((dx_3 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (View.readAt (Elt Ideal) arg9.view (Rect.unit (s := S1536x1024) ![768, 0] S256x1024.size inb_S1536x1024_S256x1024_768_0).toLoadRect (harg9.unread xs0)) (View.readAt (Elt Ideal) arg10.view (Rect.unit (s := S1536x128) ![768, 0] S256x128.size inb_S1536x128_S256x128_768_0).toLoadRect (harg10.unread xs1))).trans (congr (congr (congr (congrArg k0_pay51 (readAt_unread_full arg4 harg4 x3 inb_S512x1024_S512x1024_0_0)) (load_scale arg1 harg1 x0 (Shape.Idx.first (by decide)))) (h9 (Rect.unit (s := S1536x1024) ![768, 0] S256x1024.size inb_S1536x1024_S256x1024_768_0))) (h10 (Rect.unit (s := S1536x128) ![768, 0] S256x128.size inb_S1536x128_S256x128_768_0)))) y).trans (dx_chunk x2 x3 (x0 (ix1 0)) 768 inb_S1536x1024_S256x1024_768_0 inb_S1536x128_S256x128_768_0 inb_S1536x512_S256x512_768_0 y)
  · intro y; dsimp only; exact (congrFun ((dx_2 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (View.readAt (Elt Ideal) arg9.view (Rect.unit (s := S1536x1024) ![512, 0] S256x1024.size inb_S1536x1024_S256x1024_512_0).toLoadRect (harg9.unread xs0)) (View.readAt (Elt Ideal) arg10.view (Rect.unit (s := S1536x128) ![512, 0] S256x128.size inb_S1536x128_S256x128_512_0).toLoadRect (harg10.unread xs1))).trans (congr (congr (congr (congrArg k0_pay51 (readAt_unread_full arg4 harg4 x3 inb_S512x1024_S512x1024_0_0)) (load_scale arg1 harg1 x0 (Shape.Idx.first (by decide)))) (h9 (Rect.unit (s := S1536x1024) ![512, 0] S256x1024.size inb_S1536x1024_S256x1024_512_0))) (h10 (Rect.unit (s := S1536x128) ![512, 0] S256x128.size inb_S1536x128_S256x128_512_0)))) y).trans (dx_chunk x2 x3 (x0 (ix1 0)) 512 inb_S1536x1024_S256x1024_512_0 inb_S1536x128_S256x128_512_0 inb_S1536x512_S256x512_512_0 y)
  · intro y; dsimp only; exact (congrFun ((dx_1 (View.readAt (Elt Ideal) arg4.view (Rect.unit (s := S512x1024) ![0, 0] S512x1024.size inb_S512x1024_S512x1024_0_0).toLoadRect (harg4.unread x3)) (View.readAt (Elt Ideal) arg1.view (Rect.unit (s := S1) ![0] S1.size inb_S1_S1_0).toLoadRect (harg1.unread x0) (Shape.Idx.first (by decide))) (View.readAt (Elt Ideal) arg9.view (Rect.unit (s := S1536x1024) ![256, 0] S256x1024.size inb_S1536x1024_S256x1024_256_0).toLoadRect (harg9.unread xs0)) (View.readAt (Elt Ideal) arg10.view (Rect.unit (s := S1536x128) ![256, 0] S256x128.size inb_S1536x128_S256x128_256_0).toLoadRect (harg10.unread xs1))).trans (congr (congr (congr (congrArg k0_pay51 (readAt_unread_full arg4 harg4 x3 inb_S512x1024_S512x1024_0_0)) (load_scale arg1 harg1 x0 (Shape.Idx.first (by decide)))) (h9 (Rect.unit (s := S1536x1024) ![256, 0] S256x1024.size inb_S1536x1024_S256x1024_256_0))) (h10 (Rect.unit (s := S1536x128) ![256, 0] S256x128.size inb_S1536x128_S256x128_256_0)))) y).trans (dx_chunk x2 x3 (x0 (ix1 0)) 256 inb_S1536x1024_S256x1024_256_0 inb_S1536x128_S256x128_256_0 inb_S1536x512_S256x512_256_0 y)
  · intro y; dsimp only; exact (congrFun ((congr (congr (congr (congrArg k0_pay51 (readAt_unread_full arg4 harg4 x3 inb_S512x1024_S512x1024_0_0)) (load_scale arg1 harg1 x0 (Shape.Idx.first (by decide)))) (h9 (Rect.unit (s := S1536x1024) ![0, 0] S256x1024.size inb_S1536x1024_S256x1024_0_0))) (h10 (Rect.unit (s := S1536x128) ![0, 0] S256x128.size inb_S1536x128_S256x128_0_0)))) y).trans (dx_chunk x2 x3 (x0 (ix1 0)) 0 inb_S1536x1024_S256x1024_0_0 inb_S1536x128_S256x128_0_0 inb_S1536x512_S256x512_0_0 y)

/-- The stored block of the weight gradient. -/
theorem dw_B (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : ¬cond0 i)
    (x0 : Vec Ideal S1 .f32) (x1 : Vec Ideal S1536x512 .bf16) (x2 : Vec Ideal S1536x1024 .bf16) (x3 : Vec Ideal S512x1024 .i8) (xs0 : Vec Ideal S1536x1024 .bf16) (xs1 : Vec Ideal S1536x128 .f32) {κ : Kind} {sp : Space} (v : View sig κ sp S512x1024 .f32) (f : v.ty.Contents (Elt Ideal)) :
    v.read (Elt Ideal) (v.writes (Elt Ideal) f (runB (F := Ideal) c i arg1 harg1 arg2 harg2 arg3 harg3 arg4 harg4 arg5 harg5 arg6 harg6 arg7 harg7 arg8 harg8 arg9 harg9 arg10 harg10 hc0 x0 x1 x2 x3 xs0 xs1).2.val) = dwB x1 x2 := by
  have hcov : ∀ y, ∃ p ∈ (runB (F := Ideal) c i arg1 harg1 arg2 harg2 arg3 harg3 arg4 harg4 arg5 harg5 arg6 harg6 arg7 harg7 arg8 harg8 arg9 harg9 arg10 harg10 hc0 x0 x1 x2 x3 xs0 xs1).2.val, y ∈ p.1.set := by
    intro y
    exact View.cover_of_tiledL (s := S512x1024) _ ![512, 1024] (by sl_kernel_rfl) y
  funext y
  refine View.read_writes_apply_of_pieces v f (dwB x1 x2) _ ?_ y (hcov y)
  unfold runB
  dsimp only
  intro p hp
  simp only [List.mem_cons, List.not_mem_nil, or_false] at hp
  rcases hp with rfl
  · intro y; dsimp only; exact (congrFun (congr (congrArg k0_pay1 ((pay57_gen _).trans (readAt_unread_full arg2 harg2 x1 inb_S1536x512_S1536x512_0_0))) (readAt_unread_full arg3 harg3 x2 inb_S1536x1024_S1536x1024_0_0)) y).trans (dw_whole x1 x2 inb_S512x1024_S512x1024_0_0 y)

end Cert.KernelIdeal.Hand

end
-- ==== Proof.Ideal.Body.lean ====
/- The body of the kernel in closed form, at the ideal values: on whole operands it ends with its outputs at the functions of its
   inputs that `Ideal/Closed.lean` names. -/
module

public import proofs.«01_k».proof.Proof.Ideal.PiecesA
public import proofs.«01_k».proof.Proof.Ideal.PiecesB

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- At grid point 0 the body fills every output and both scratch buffers. -/
theorem body_A (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : cond0 i)
    (x0 : Vec Ideal S1 .f32) (x1 : Vec Ideal S1536x512 .bf16) (x2 : Vec Ideal S1536x1024 .bf16) (x3 : Vec Ideal S512x1024 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (dxB x2 x3 (x0 (ix1 0))) ∗ owns (c : Thread nD τ) arg6 fullShare (dwB x1 x2) ∗ owns (c : Thread nD τ) arg7 fullShare (codes x2) ∗ owns (c : Thread nD τ) arg8 fullShare (scales x2) ∗ owns (c : Thread nD τ) arg9 fullShare (codesB x2) ∗ owns (c : Thread nD τ) arg10 fullShare (scalesB x2)) -∗ K ⟨⟩))
      ⊢ wp frame (wpE (defs₀ (F := Ideal)) Variants.none c none) E (cc0_switchback_bwd i arg1 harg1 arg2 harg2 arg3 harg3 arg4 harg4 arg5 harg5 arg6 harg6 arg7 harg7 arg8 harg8 arg9 harg9 arg10 harg10) K := by
  iintro ⟨H0, H1, H2, H3, H4, H5, H6, H7, HS0, HS1, Hk⟩
  iapply ((runA (F := Ideal) c i arg1 harg1 arg2 harg2 arg3 harg3 arg4 harg4 arg5 harg5 arg6 harg6 arg7 harg7 arg8 harg8 arg9 harg9 arg10 harg10 hc0 x0 x1 x2 x3).2.2.2.2.2.property E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  iintro ⟨H0, H1, H2, H3, ⟨%f4, H4⟩, ⟨%f5, H5⟩, ⟨%f6, H6⟩, ⟨%f7, H7⟩, ⟨%g0, HS0⟩, ⟨%g1, HS1⟩⟩
  iapply Hk
  isplitl [H0]; · iexact H0
  isplitl [H1]; · iexact H1
  isplitl [H2]; · iexact H2
  isplitl [H3]; · iexact H3
  isplitl [H4]; · unfold owns; iexists _; isplitr; swap; (iexact H4); ipureintro; exact dx_A c i arg1 harg1 arg2 harg2 arg3 harg3 arg4 harg4 arg5 harg5 arg6 harg6 arg7 harg7 arg8 harg8 arg9 harg9 arg10 harg10 hc0 x0 x1 x2 x3 _ _
  isplitl [H5]; · unfold owns; iexists _; isplitr; swap; (iexact H5); ipureintro; exact dw_A c i arg1 harg1 arg2 harg2 arg3 harg3 arg4 harg4 arg5 harg5 arg6 harg6 arg7 harg7 arg8 harg8 arg9 harg9 arg10 harg10 hc0 x0 x1 x2 x3 _ _
  isplitl [H6]; · unfold owns; iexists _; isplitr; swap; (iexact H6); ipureintro; exact codes_A c i arg1 harg1 arg2 harg2 arg3 harg3 arg4 harg4 arg5 harg5 arg6 harg6 arg7 harg7 arg8 harg8 arg9 harg9 arg10 harg10 hc0 x0 x1 x2 x3 _ _
  isplitl [H7]; · unfold owns; iexists _; isplitr; swap; (iexact H7); ipureintro; exact scales_A c i arg1 harg1 arg2 harg2 arg3 harg3 arg4 harg4 arg5 harg5 arg6 harg6 arg7 harg7 arg8 harg8 arg9 harg9 arg10 harg10 hc0 x0 x1 x2 x3 _ _
  isplitl [HS0]; · unfold owns; iexists _; isplitr; swap; (iexact HS0); ipureintro; exact codesB_A c i arg1 harg1 arg2 harg2 arg3 harg3 arg4 harg4 arg5 harg5 arg6 harg6 arg7 harg7 arg8 harg8 arg9 harg9 arg10 harg10 hc0 x0 x1 x2 x3 _ _
  unfold owns; iexists _; isplitr; swap; (iexact HS1); ipureintro; exact scalesB_A c i arg1 harg1 arg2 harg2 arg3 harg3 arg4 harg4 arg5 harg5 arg6 harg6 arg7 harg7 arg8 harg8 arg9 harg9 arg10 harg10 hc0 x0 x1 x2 x3 _ _

/-- At the later points, from the scratch buffers as point 0 left them, it fills the two block outputs and touches no other. -/
theorem body_B (c : Dev nD) (i : grid0.Coords) (arg1 : Memref sig .tc .smem S1 .f32) (harg1 : arg1.IsWhole) (arg2 : Memref sig .tc .vmem S1536x512 .bf16) (harg2 : arg2.IsWhole) (arg3 : Memref sig .tc .vmem S1536x1024 .bf16) (harg3 : arg3.IsWhole) (arg4 : Memref sig .tc .vmem S512x1024 .i8) (harg4 : arg4.IsWhole) (arg5 : Memref sig .tc .vmem S1536x512 .bf16) (harg5 : arg5.IsWhole) (arg6 : Memref sig .tc .vmem S512x1024 .f32) (harg6 : arg6.IsWhole) (arg7 : Memref sig .tc .vmem S1536x1024 .i8) (harg7 : arg7.IsWhole) (arg8 : Memref sig .tc .vmem S6x256 .f32) (harg8 : arg8.IsWhole) (arg9 : Memref sig .tc .vmem S1536x1024 .bf16) (harg9 : arg9.IsWhole) (arg10 : Memref sig .tc .vmem S1536x128 .f32) (harg10 : arg10.IsWhole) (hc0 : ¬cond0 i)
    (x0 : Vec Ideal S1 .f32) (x1 : Vec Ideal S1536x512 .bf16) (x2 : Vec Ideal S1536x1024 .bf16) (x3 : Vec Ideal S512x1024 .i8) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ owns (c : Thread nD τ) arg9 fullShare (codesB x2) ∗ owns (c : Thread nD τ) arg10 fullShare (scalesB x2)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (dxB x2 x3 (x0 (ix1 0))) ∗ owns (c : Thread nD τ) arg6 fullShare (dwB x1 x2) ∗ owns (c : Thread nD τ) arg9 fullShare (codesB x2) ∗ owns (c : Thread nD τ) arg10 fullShare (scalesB x2)) -∗ K ⟨⟩))
      ⊢ wp frame (wpE (defs₀ (F := Ideal)) Variants.none c none) E (cc0_switchback_bwd i arg1 harg1 arg2 harg2 arg3 harg3 arg4 harg4 arg5 harg5 arg6 harg6 arg7 harg7 arg8 harg8 arg9 harg9 arg10 harg10) K := by
  iintro ⟨H0, H1, H2, H3, H4, H5, HS0, HS1, Hk⟩
  iapply ((runB (F := Ideal) c i arg1 harg1 arg2 harg2 arg3 harg3 arg4 harg4 arg5 harg5 arg6 harg6 arg7 harg7 arg8 harg8 arg9 harg9 arg10 harg10 hc0 x0 x1 x2 x3 (codesB x2) (scalesB x2)).2.property E K)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, ⟨%f4, H4⟩, ⟨%f5, H5⟩, HS0, HS1⟩
  iapply Hk
  isplitl [H0]; · iexact H0
  isplitl [H1]; · iexact H1
  isplitl [H2]; · iexact H2
  isplitl [H3]; · iexact H3
  isplitl [H4]; · unfold owns; iexists _; isplitr; swap; (iexact H4); ipureintro; exact dx_B c i arg1 harg1 arg2 harg2 arg3 harg3 arg4 harg4 arg5 harg5 arg6 harg6 arg7 harg7 arg8 harg8 arg9 harg9 arg10 harg10 hc0 x0 x1 x2 x3 _ _ rfl rfl _ _
  isplitl [H5]; · unfold owns; iexists _; isplitr; swap; (iexact H5); ipureintro; exact dw_B c i arg1 harg1 arg2 harg2 arg3 harg3 arg4 harg4 arg5 harg5 arg6 harg6 arg7 harg7 arg8 harg8 arg9 harg9 arg10 harg10 hc0 x0 x1 x2 x3 _ _ _ _
  isplitl [HS0]; · iexact HS0
  iexact HS1

end Cert.KernelIdeal.Hand

end
-- ==== Proof.Ideal.Windows.lean ====
/- The blocks of the pipeline and the whole results. The last block of each blocked array overhangs it (2880 = 5·512 + 320): its tail in a
   staging buffer holds words nothing names. What the body computes inside the array does not depend on them. -/
module

public import Idealize.ShloMosaic.Lib.Pipeline.Value
public import proofs.«01_k».proof.Proof.Ideal.Closed
public import proofs.«01_k».proof.Proof.Gen.KernelIdeal.Frame

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.Tactic
open Idealize.ShloMosaic.Pipeline (Dat Cfg Window)

/-! ## The results, whole -/

/-- The input gradient of all rows, from the flattened incoming gradient, the weight codes and the weight scale. -/
def dxAll (x : Vec Ideal S1536x1024 .bf16) (w : Vec Ideal S2880x1024 .i8) (u : Ideal .f32) : Vec Ideal S1536x2880 .bf16 :=
  fun y => dxE (row x (y 0)) (fun k => w (ix2 (y 1) k)) u

/-- The weight gradient, from the flattened input and the flattened incoming gradient. -/
def dwAll (z : Vec Ideal S1536x2880 .bf16) (x : Vec Ideal S1536x1024 .bf16) : Vec Ideal S2880x1024 .f32 :=
  fun y => (∑ k : Fin 1536, (z (ix2 k (y 0)) : EReal) * (x (ix2 k (y 1)) : EReal) : EReal)

/-! ## The windows' rectangles: block `t` starts at 512·t on the blocked axis, at 0 on the other -/

theorem off1 : ∀ t : Fin grid0.N, win0_1.kind.off (win0_1.index t 0) (win0_1.size 0) = 0 ∧ win0_1.kind.off (win0_1.index t 1) (win0_1.size 1) = 512 * t.val := by decide +kernel
theorem off3 : ∀ t : Fin grid0.N, win0_3.kind.off (win0_3.index t 0) (win0_3.size 0) = 512 * t.val ∧ win0_3.kind.off (win0_3.index t 1) (win0_3.size 1) = 0 := by decide +kernel
theorem off4 : ∀ t : Fin grid0.N, win0_4.kind.off (win0_4.index t 0) (win0_4.size 0) = 0 ∧ win0_4.kind.off (win0_4.index t 1) (win0_4.size 1) = 512 * t.val := by decide +kernel
theorem off5 : ∀ t : Fin grid0.N, win0_5.kind.off (win0_5.index t 0) (win0_5.size 0) = 512 * t.val ∧ win0_5.kind.off (win0_5.index t 1) (win0_5.size 1) = 0 := by decide +kernel

theorem xs1 : ∀ t : Fin grid0.N, win0_1.xsize (grid0.coords t) 0 = 1536 ∧ win0_1.xsize (grid0.coords t) 1 = min 512 (2880 - 512 * t.val) := by decide +kernel
theorem xs3 : ∀ t : Fin grid0.N, win0_3.xsize (grid0.coords t) 0 = min 512 (2880 - 512 * t.val) ∧ win0_3.xsize (grid0.coords t) 1 = 1024 := by decide +kernel
theorem xs4 : ∀ t : Fin grid0.N, win0_4.xsize (grid0.coords t) 0 = 1536 ∧ win0_4.xsize (grid0.coords t) 1 = min 512 (2880 - 512 * t.val) := by decide +kernel
theorem xs5 : ∀ t : Fin grid0.N, win0_5.xsize (grid0.coords t) 0 = min 512 (2880 - 512 * t.val) ∧ win0_5.xsize (grid0.coords t) 1 = 1024 := by decide +kernel

/-- A weight-code block filled out with anything, read inside the array: the array's row. -/
theorem fill3 (W : Vec Ideal S2880x1024 .i8) (t : Fin grid0.N) (d : Vec Ideal S512x1024 .i8) (r : Fin 512) (k : Fin 1024) (R : Fin 2880)
    (hr : r.val < win0_3.xsize (grid0.coords t) 0) (hR : R.val = 512 * t.val + r.val) :
    win0_3.fill (grid0.coords t) d ((win0_3.blk t).view.read (Elt Ideal) W) (ix2 r k) = W (ix2 R k) := by
  let j : (win0_3.xblock (grid0.coords t)).Idx := fun a => match a with
    | ⟨0, _⟩ => ⟨r.val, hr⟩
    | ⟨1, _⟩ => ⟨k.val, Nat.lt_of_lt_of_eq k.isLt (xs3 t).2.symm⟩
  have hj : ix2 r k = win0_3.xinj (grid0.coords t) j := funext fun a => Fin.ext (by
    match a with
    | ⟨0, _⟩ => rfl
    | ⟨1, _⟩ => rfl)
  rw [hj, win0_3.fill_xinj]
  show W ((win0_3.rect t).emb j) = _
  refine congrArg W (funext fun a => Fin.ext ?_)
  rw [Pipeline.Window.rect_emb_val_off]
  match a with
  | ⟨0, _⟩ => exact (congrArg (· + r.val) (off3 t).1).trans hR.symm
  | ⟨1, _⟩ => exact (congrArg (· + k.val) (off3 t).2).trans (Nat.zero_add _)

/-- An input block filled out with anything, read inside the array: the array's column. -/
theorem fill1 (Z : Vec Ideal S1536x2880 .bf16) (t : Fin grid0.N) (d : Vec Ideal S1536x512 .bf16) (k : Fin 1536) (r : Fin 512) (R : Fin 2880)
    (hr : r.val < win0_1.xsize (grid0.coords t) 1) (hR : R.val = 512 * t.val + r.val) :
    win0_1.fill (grid0.coords t) d ((win0_1.blk t).view.read (Elt Ideal) Z) (ix2 k r) = Z (ix2 k R) := by
  let j : (win0_1.xblock (grid0.coords t)).Idx := fun a => match a with
    | ⟨0, _⟩ => ⟨k.val, Nat.lt_of_lt_of_eq k.isLt (xs1 t).1.symm⟩
    | ⟨1, _⟩ => ⟨r.val, hr⟩
  have hj : ix2 k r = win0_1.xinj (grid0.coords t) j := funext fun a => Fin.ext (by
    match a with
    | ⟨0, _⟩ => rfl
    | ⟨1, _⟩ => rfl)
  rw [hj, win0_1.fill_xinj]
  show Z ((win0_1.rect t).emb j) = _
  refine congrArg Z (funext fun a => Fin.ext ?_)
  rw [Pipeline.Window.rect_emb_val_off]
  match a with
  | ⟨0, _⟩ => exact (congrArg (· + k.val) (off1 t).1).trans (Nat.zero_add _)
  | ⟨1, _⟩ => exact (congrArg (· + r.val) (off1 t).2).trans hR.symm

/-- Inside the array, the block of the input gradient the body computes is the window of the whole, whatever the tail of the staged weight codes. -/
theorem cut_dx (x : Vec Ideal S1536x1024 .bf16) (W : Vec Ideal S2880x1024 .i8) (u : Ideal .f32) (t : Fin grid0.N) (d : Vec Ideal S512x1024 .i8) :
    win0_4.cut (grid0.coords t) (dxB x (win0_3.fill (grid0.coords t) d ((win0_3.blk t).view.read (Elt Ideal) W)) u)
      = (win0_4.blk t).view.read (Elt Ideal) (dxAll x W u) := by
  funext j
  have h1 : (j 1).val < win0_4.xsize (grid0.coords t) 1 := (j 1).isLt
  have h0 : (j 0).val < win0_4.xsize (grid0.coords t) 0 := (j 0).isLt
  have h3 : (j 1).val < win0_3.xsize (grid0.coords t) 0 := by rw [(xs3 t).1, ← (xs4 t).2]; exact h1
  have h512 : (j 1).val < 512 := by rw [(xs4 t).2] at h1; omega
  rw [(xs4 t).2] at h1; rw [(xs4 t).1] at h0
  have hr : ∀ k : Fin 1024, win0_3.fill (grid0.coords t) d ((win0_3.blk t).view.read (Elt Ideal) W) (ix2 ⟨(j 1).val, h512⟩ k)
      = W (ix2 ⟨512 * t.val + (j 1).val, by omega⟩ k) := fun k => fill3 W t d _ k _ h3 rfl
  have e0 : (((win0_4.rect t).emb j) 0 : ℕ) = (j 0).val := (win0_4.rect_emb_val_off t j 0).trans ((congrArg (· + (j 0).val) (off4 t).1).trans (Nat.zero_add _))
  have e1 : (((win0_4.rect t).emb j) 1 : ℕ) = 512 * t.val + (j 1).val := (win0_4.rect_emb_val_off t j 1).trans (congrArg (· + (j 1).val) (off4 t).2)
  show dxE (row x ⟨(j 0).val, _⟩) (fun k => win0_3.fill (grid0.coords t) d ((win0_3.blk t).view.read (Elt Ideal) W) (ix2 ⟨(j 1).val, _⟩ k)) u
    = dxE (row x (((win0_4.rect t).emb j) 0)) (fun k => W (ix2 (((win0_4.rect t).emb j) 1) k)) u
  refine congr (congr (congrArg dxE (congrArg (row x) (Fin.ext e0.symm))) (funext fun k => ?_)) rfl
  exact (hr k).trans (congrArg (fun i : Fin 2880 => W (ix2 i k)) (Fin.ext e1.symm))

/-- The same for the block of the weight gradient and the tail of the staged input. -/
theorem cut_dw (Z : Vec Ideal S1536x2880 .bf16) (x : Vec Ideal S1536x1024 .bf16) (t : Fin grid0.N) (d : Vec Ideal S1536x512 .bf16) :
    win0_5.cut (grid0.coords t) (dwB (win0_1.fill (grid0.coords t) d ((win0_1.blk t).view.read (Elt Ideal) Z)) x)
      = (win0_5.blk t).view.read (Elt Ideal) (dwAll Z x) := by
  funext j
  have h0 : (j 0).val < win0_5.xsize (grid0.coords t) 0 := (j 0).isLt
  have h1 : (j 1).val < win0_5.xsize (grid0.coords t) 1 := (j 1).isLt
  have h3 : (j 0).val < win0_1.xsize (grid0.coords t) 1 := by rw [(xs1 t).2, ← (xs5 t).1]; exact h0
  have h512 : (j 0).val < 512 := by rw [(xs5 t).1] at h0; omega
  rw [(xs5 t).1] at h0; rw [(xs5 t).2] at h1
  have hr : ∀ k : Fin 1536, win0_1.fill (grid0.coords t) d ((win0_1.blk t).view.read (Elt Ideal) Z) (ix2 k ⟨(j 0).val, h512⟩)
      = Z (ix2 k ⟨512 * t.val + (j 0).val, by omega⟩) := fun k => fill1 Z t d k _ _ h3 rfl
  have e0 : (((win0_5.rect t).emb j) 0 : ℕ) = 512 * t.val + (j 0).val := (win0_5.rect_emb_val_off t j 0).trans (congrArg (· + (j 0).val) (off5 t).1)
  have e1 : (((win0_5.rect t).emb j) 1 : ℕ) = (j 1).val := (win0_5.rect_emb_val_off t j 1).trans ((congrArg (· + (j 1).val) (off5 t).2).trans (Nat.zero_add _))
  show (∑ k : Fin 1536, (win0_1.fill (grid0.coords t) d ((win0_1.blk t).view.read (Elt Ideal) Z) (ix2 k ⟨(j 0).val, _⟩) : EReal) * (x (ix2 k ⟨(j 1).val, _⟩) : EReal) : EReal)
    = (∑ k : Fin 1536, (Z (ix2 k (((win0_5.rect t).emb j) 0)) : EReal) * (x (ix2 k (((win0_5.rect t).emb j) 1)) : EReal) : EReal)
  refine Finset.sum_congr rfl fun k _ => congr (congrArg HMul.hMul ?_) ?_
  · exact (hr k).trans (congrArg (fun i : Fin 2880 => Z (ix2 k i)) (Fin.ext e0.symm))
  · exact congrArg (fun i : Fin 1024 => x (ix2 k i)) (Fin.ext e1.symm)

/-! ## The blocks cover the arrays -/

/-- Every index of the input gradient is in the block of its column's 512. -/
theorem cover4 (i : S1536x2880.Idx) : ∃ t : Fin grid0.N, i ∈ (win0_4.blk t).view.set := by
  have h0 : (i 0).val < 1536 := (i 0).isLt
  have h1 : (i 1).val < 2880 := (i 1).isLt
  obtain ⟨t, ht⟩ : ∃ t : Fin grid0.N, t.val = (i 1).val / 512 := ⟨⟨(i 1).val / 512, by rw [N_0]; omega⟩, rfl⟩
  refine ⟨t, ?_⟩
  show i ∈ ((View.whole main_v2_0).slice (win0_4.rect t)).set
  rw [View.set_slice_whole, Rect.mem_set_unit]
  intro a
  match a with
  | ⟨0, _⟩ =>
    have e := (off4 t).1
    have e' := (xs4 t).1
    refine ⟨(Nat.le_of_eq e).trans (Nat.zero_le _), h0.trans_eq ?_⟩
    exact ((congr (congrArg HAdd.hAdd e) e').trans (Nat.zero_add _)).symm
  | ⟨1, _⟩ =>
    have e := (off4 t).2
    have e' := (xs4 t).2
    refine ⟨(Nat.le_of_eq e).trans ?_, Nat.lt_of_lt_of_eq ?_ (congr (congrArg HAdd.hAdd e) e').symm⟩
    · show 512 * t.val ≤ (i 1).val; omega
    · show (i 1).val < 512 * t.val + min 512 (2880 - 512 * t.val); omega

/-- Every index of the weight gradient is in the block of its row's 512. -/
theorem cover5 (i : S2880x1024.Idx) : ∃ t : Fin grid0.N, i ∈ (win0_5.blk t).view.set := by
  have h0 : (i 0).val < 2880 := (i 0).isLt
  have h1 : (i 1).val < 1024 := (i 1).isLt
  obtain ⟨t, ht⟩ : ∃ t : Fin grid0.N, t.val = (i 0).val / 512 := ⟨⟨(i 0).val / 512, by rw [N_0]; omega⟩, rfl⟩
  refine ⟨t, ?_⟩
  show i ∈ ((View.whole main_v2_1).slice (win0_5.rect t)).set
  rw [View.set_slice_whole, Rect.mem_set_unit]
  intro a
  match a with
  | ⟨0, _⟩ =>
    have e := (off5 t).1
    have e' := (xs5 t).1
    refine ⟨(Nat.le_of_eq e).trans ?_, Nat.lt_of_lt_of_eq ?_ (congr (congrArg HAdd.hAdd e) e').symm⟩
    · show 512 * t.val ≤ (i 0).val; omega
    · show (i 0).val < 512 * t.val + min 512 (2880 - 512 * t.val); omega
  | ⟨1, _⟩ =>
    have e := (off5 t).2
    have e' := (xs5 t).2
    refine ⟨(Nat.le_of_eq e).trans (Nat.zero_le _), h1.trans_eq ?_⟩
    exact ((congr (congrArg HAdd.hAdd e) e').trans (Nat.zero_add _)).symm

end Cert.KernelIdeal.Hand

end
-- ==== Proof.Ideal.Value.lean ====
/- The pipeline run at the ideal values: what each staging buffer holds after each grid point, the body's obligation, the launch. -/
module

public import Idealize.ShloMosaic.Lib.Pipeline.TableIdle
public import proofs.«01_k».proof.Proof.Ideal.Body
public import proofs.«01_k».proof.Proof.Ideal.Windows

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-! ## What the region finds in the arrays -/

/-- The flattened incoming gradient. -/
def X (c : Dev nD) : Vec Ideal S1536x1024 .bf16 := V m c main_v1
/-- The flattened input. -/
def Z (c : Dev nD) : Vec Ideal S1536x2880 .bf16 := V m c main_v0
/-- The weight codes. -/
def Wc (c : Dev nD) : Vec Ideal S2880x1024 .i8 := V m c main_arg2
/-- The weight scale. -/
def ws (c : Dev nD) : Ideal .f32 := (V m c main_arg3 : Vec Ideal S1 .f32) (ix1 0)

theorem off0 : ∀ t : Fin grid0.N, win0_0.kind.off (win0_0.index t 0) (win0_0.size 0) = 0 := by decide +kernel
theorem off2 : ∀ t : Fin grid0.N, ∀ a, win0_2.kind.off (win0_2.index t a) (win0_2.size a) = 0 := by decide +kernel
theorem off6 : ∀ t : Fin grid0.N, ∀ a, win0_6.kind.off (win0_6.index t a) (win0_6.size a) = 0 := by decide +kernel
theorem off7 : ∀ t : Fin grid0.N, ∀ a, win0_7.kind.off (win0_7.index t a) (win0_7.size a) = 0 := by decide +kernel

/-- The incoming gradient is staged whole. -/
theorem iblk2 (c : Dev nD) (t : Fin cfg0.N) : iblk m c 2 t = X m c := by
  funext j
  show (V m c main_v1 : Vec Ideal S1536x1024 .bf16) ((win0_2.rect t).emb j) = (V m c main_v1 : Vec Ideal S1536x1024 .bf16) j
  exact congrArg (V m c main_v1 : Vec Ideal S1536x1024 .bf16) (funext fun a => Fin.ext (by
    rw [Pipeline.Window.rect_emb_val_off, off2, Nat.zero_add]))

/-- The weight scale is staged whole. -/
theorem iblk0 (c : Dev nD) (t : Fin cfg0.N) : (iblk m c 0 t : Vec Ideal S1 .f32) (ix1 0) = ws m c := by
  show (V m c main_arg3 : Vec Ideal S1 .f32) ((win0_0.rect t).emb (ix1 0 : S1.Idx)) = (V m c main_arg3 : Vec Ideal S1 .f32) (ix1 0)
  refine congrArg (V m c main_arg3 : Vec Ideal S1 .f32) (funext fun a => Fin.ext ?_)
  rw [Pipeline.Window.rect_emb_val_off]
  match a with
  | ⟨0, _⟩ => exact (congrArg (· + 0) (off0 t))

/-! ## The proof data -/

/-- The invariant before position `n`: before the first point the scratch buffers at anything; afterwards at the codes and scales. -/
def PhiS (c : Dev nD) : (n : ℕ) → n ≤ cfg0.N → sProp 𝕄
  | 0, _ => Pipeline.ΦA spec0 c
  | n + 1, _ => iprop(iprop(owns (c : Thread nD τ) (Memref.whole cc0_scratch0 : Memref sig .tc .vmem S1536x1024 .bf16) fullShare (codesB (X m c)) ∗ owns (c : Thread nD τ) (Memref.whole cc0_scratch1 : Memref sig .tc .vmem S1536x128 .f32) fullShare (scalesB (X m c))) ∗ (∃ r, prngReg c r))

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) :
    PhiS m c n h = iprop(iprop(owns (c : Thread nD τ) (Memref.whole cc0_scratch0 : Memref sig .tc .vmem S1536x1024 .bf16) fullShare (codesB (X m c)) ∗ owns (c : Thread nD τ) (Memref.whole cc0_scratch1 : Memref sig .tc .vmem S1536x128 .f32) fullShare (scalesB (X m c))) ∗ (∃ r, prngReg c r)) := by
  cases n with
  | zero => exact absurd rfl hz
  | succ n => rfl

/-- The proof data: each input's buffer at its block, filled out past the array's end with a zero nothing reads; the two
    blocked outputs' at the windows of the whole gradients, filled out likewise; the codes' and the scales' whole, from the first
    point on. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) (fun _ => (0 : EReal)) (iblk m c 1 t)
    | ⟨2, _⟩ => iblk m c 2 t
    | ⟨3, _⟩ => win0_3.fill (grid0.coords t) (fun _ => (0#8 : BitVec 8)) (iblk m c 3 t)
    | ⟨4, _⟩ => win0_4.fill (grid0.coords t) (fun _ => (0 : EReal)) ((win0_4.blk t).view.read (Elt Ideal) (dxAll (X m c) (Wc m c) (ws m c)))
    | ⟨5, _⟩ => win0_5.fill (grid0.coords t) (fun _ => (0 : EReal)) ((win0_5.blk t).view.read (Elt Ideal) (dwAll (Z m c) (X m c)))
    | ⟨6, _⟩ => codes (X m c)
    | ⟨7, _⟩ => scales (X m c)
  Φ t := PhiS m c t.val (Nat.le_of_lt_succ t.isLt)
  q _ := fullShare
  owed _ := 0

theorem A_eq (c : Dev nD) (w : Fin cfg0.W) : (dats m 0 c).A w = V m c (Pipeline.arrRef spec0 w) := by dsimp only [dats]

theorem PhiS_castSucc (c : Dev nD) (t : Fin cfg0.N) : (dats m 0 c).Φ t.castSucc = PhiS m c t.val (Nat.le_of_lt t.isLt) := by
  dsimp only [dats]; exact Pipeline.Dat.Φ_castSucc (PhiS m c) t

theorem after0 (c : Dev nD) (t : Fin cfg0.N) : (dats m 0 c).after 0 t = iblk m c 0 t := by dsimp only [dats]
theorem after1 (c : Dev nD) (t : Fin cfg0.N) : (dats m 0 c).after 1 t = win0_1.fill (grid0.coords t) (fun _ => (0 : EReal)) (iblk m c 1 t) := by dsimp only [dats]
theorem after2 (c : Dev nD) (t : Fin cfg0.N) : (dats m 0 c).after 2 t = iblk m c 2 t := by dsimp only [dats]
theorem after3 (c : Dev nD) (t : Fin cfg0.N) : (dats m 0 c).after 3 t = win0_3.fill (grid0.coords t) (fun _ => (0#8 : BitVec 8)) (iblk m c 3 t) := by dsimp only [dats]
theorem after4 (c : Dev nD) (t : Fin cfg0.N) : (dats m 0 c).after 4 t = win0_4.fill (grid0.coords t) (fun _ => (0 : EReal)) ((win0_4.blk t).view.read (Elt Ideal) (dxAll (X m c) (Wc m c) (ws m c))) := by dsimp only [dats]
theorem after5 (c : Dev nD) (t : Fin cfg0.N) : (dats m 0 c).after 5 t = win0_5.fill (grid0.coords t) (fun _ => (0 : EReal)) ((win0_5.blk t).view.read (Elt Ideal) (dwAll (Z m c) (X m c))) := by dsimp only [dats]
theorem after6 (c : Dev nD) (t : Fin cfg0.N) : (dats m 0 c).after 6 t = codes (X m c) := by dsimp only [dats]
theorem after7 (c : Dev nD) (t : Fin cfg0.N) : (dats m 0 c).after 7 t = scales (X m c) := by dsimp only [dats]

theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before1 (c : Dev nD) (t : Fin cfg0.N) (d) : (dats m 0 c).before 1 t d = win0_1.fill (grid0.coords t) d (iblk m c 1 t) := by
  unfold Dat.before; rw [if_pos (fetch0_1 t)]; unfold Dat.fetched Dat.blockOf; rw [A_eq]; rfl
theorem before3 (c : Dev nD) (t : Fin cfg0.N) (d) : (dats m 0 c).before 3 t d = win0_3.fill (grid0.coords t) d (iblk m c 3 t) := by
  unfold Dat.before; rw [if_pos (fetch0_3 t)]; unfold Dat.fetched Dat.blockOf; rw [A_eq]; rfl

theorem fresh6 : ∀ t : Fin cfg0.N, t.val ≠ 0 → cfg0.fresh 6 t.val = false := by decide +kernel
theorem fresh7 : ∀ t : Fin cfg0.N, t.val ≠ 0 → cfg0.fresh 7 t.val = false := by decide +kernel

/-- After the first point the codes' buffer holds the codes. -/
theorem before6 (c : Dev nD) (t : Fin cfg0.N) (ht : t.val ≠ 0) (d) : (dats m 0 c).before 6 t d = codes (X m c) := by
  rw [(dats m 0 c).before_out_traj 6 rfl (fun _ _ => rfl) (fun t _ _ _ => (after6 m c t).trans (after6 m c _).symm) t.val t rfl d, fresh6 t ht]
  exact after6 m c _
/-- After the first point the scales' buffer holds the scales. -/
theorem before7 (c : Dev nD) (t : Fin cfg0.N) (ht : t.val ≠ 0) (d) : (dats m 0 c).before 7 t d = scales (X m c) := by
  rw [(dats m 0 c).before_out_traj 7 rfl (fun _ _ => rfl) (fun t _ _ _ => (after7 m c t).trans (after7 m c _).symm) t.val t rfl d, fresh7 t ht]
  exact after7 m c _

/-! ## What the body hands back -/

/-- A buffer that is not loose, at what the proof data says of it. -/
theorem give (c : Dev nD) (w : Fin cfg0.W) (t : Fin cfg0.N) (hl : cfg0.loose w = false) (Y)
    (hY : Y = (dats m 0 c).after w t) (hb : cfg0.idle w (grid0.coords t) = true → ∀ d, (dats m 0 c).before w t d = (dats m 0 c).after w t) :
    owns (c : Thread nD τ) ((cfg0.win w).stage (cfg0.slots t w)) fullShare Y ⊢ ((dats m 0 c).leaves w t : sProp 𝕄) := by
  subst hY
  unfold Dat.leaves
  cases hi : cfg0.idle w (cfg0.grid.coords t)
  · rw [hl]
  · cases (cfg0.win w).flush t
    · iintro H; iexists (dats m 0 c).after w t; rw [hb hi]; iexact H
    · rw [hl]

/-- A loose buffer, at contents that agree with what the proof data says of it inside the array. -/
theorem giveLoose (c : Dev nD) (w : Fin cfg0.W) (t : Fin cfg0.N) (hl : cfg0.loose w = true) (hi : cfg0.idle w (cfg0.grid.coords t) = false) (Y)
    (hY : (cfg0.win w).cut (grid0.coords t) Y = (cfg0.win w).cut (grid0.coords t) ((dats m 0 c).after w t)) :
    owns (c : Thread nD τ) ((cfg0.win w).stage (cfg0.slots t w)) fullShare Y ⊢ ((dats m 0 c).leaves w t : sProp 𝕄) := by
  unfold Dat.leaves
  rw [hi, hl]
  iintro H; iexists Y
  rw [(cfg0.win w).fill_congr_cut _ hY]; iexact H

theorem idle_iff6 : ∀ t : Fin cfg0.N, cfg0.idle 6 (grid0.coords t) = true → t.val ≠ 0 := by decide +kernel
theorem idle_iff7 : ∀ t : Fin cfg0.N, cfg0.idle 7 (grid0.coords t) = true → t.val ≠ 0 := by decide +kernel

theorem cut4 (c : Dev nD) (t : Fin cfg0.N) (d : Vec Ideal S512x1024 .i8) :
    (cfg0.win 4).cut (grid0.coords t) (dxB (iblk m c 2 t) (win0_3.fill (grid0.coords t) d (iblk m c 3 t)) ((iblk m c 0 t : Vec Ideal S1 .f32) (ix1 0)))
      = (cfg0.win 4).cut (grid0.coords t) ((dats m 0 c).after 4 t) := by
  rw [iblk2, iblk0, after4]
  exact (cut_dx (X m c) (Wc m c) (ws m c) t d).trans (win0_4.cut_fill _ _ _).symm

theorem cut5 (c : Dev nD) (t : Fin cfg0.N) (d : Vec Ideal S1536x512 .bf16) :
    (cfg0.win 5).cut (grid0.coords t) (dwB (win0_1.fill (grid0.coords t) d (iblk m c 1 t)) (iblk m c 2 t))
      = (cfg0.win 5).cut (grid0.coords t) ((dats m 0 c).after 5 t) := by
  rw [iblk2, after5]
  exact (cut_dw (Z m c) (X m c) t d).trans (win0_5.cut_fill _ _ _).symm

theorem cut1 (c : Dev nD) (t : Fin cfg0.N) (d : Vec Ideal S1536x512 .bf16) :
    (cfg0.win 1).cut (grid0.coords t) (win0_1.fill (grid0.coords t) d (iblk m c 1 t)) = (cfg0.win 1).cut (grid0.coords t) ((dats m 0 c).after 1 t) := by
  rw [after1]
  exact (win0_1.cut_fill _ _ _).trans (win0_1.cut_fill _ _ _).symm

theorem cut3 (c : Dev nD) (t : Fin cfg0.N) (d : Vec Ideal S512x1024 .i8) :
    (cfg0.win 3).cut (grid0.coords t) (win0_3.fill (grid0.coords t) d (iblk m c 3 t)) = (cfg0.win 3).cut (grid0.coords t) ((dats m 0 c).after 3 t) := by
  rw [after3]
  exact (win0_3.cut_fill _ _ _).trans (win0_3.cut_fill _ _ _).symm

/-! ## The body's obligation -/

/-- The invariant with the scratch operands as memrefs owned at some contents. -/
theorem PhiA0_eq (c : Dev nD) :
    (Pipeline.ΦA spec0 c : sProp 𝕄)
      = iprop(iprop((∃ d, owns (c : Thread nD τ) (Memref.whole cc0_scratch0 : Memref sig .tc .vmem S1536x1024 .bf16) fullShare d) ∗ (∃ d, owns (c : Thread nD τ) (Memref.whole cc0_scratch1 : Memref sig .tc .vmem S1536x128 .f32) fullShare d)) ∗ (∃ r, prngReg c r)) := by
  unfold Pipeline.ΦA; rw [scopedRest0_eq]; simp only [owns_whole]; try rfl

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d))
    ∗ (∃ d, owns (c : Thread nD τ) (st0_2 t) fullShare ((dats m 0 c).before 2 t d)) ∗ (∃ d, owns (c : Thread nD τ) (st0_3 t) fullShare ((dats m 0 c).before 3 t d))
    ∗ (∃ d, owns (c : Thread nD τ) (st0_4 t) fullShare ((dats m 0 c).before 4 t d)) ∗ (∃ d, owns (c : Thread nD τ) (st0_5 t) fullShare ((dats m 0 c).before 5 t d))
    ∗ (∃ d, owns (c : Thread nD τ) (st0_6 t) fullShare ((dats m 0 c).before 6 t d)) ∗ (∃ d, owns (c : Thread nD τ) (st0_7 t) fullShare ((dats m 0 c).before 7 t d)))

/-- What it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t ∗ (dats m 0 c).leaves 5 t ∗ (dats m 0 c).leaves 6 t ∗ (dats m 0 c).leaves 7 t)

/-- What the body's run leaves is what it returns. -/
theorem post_of (c : Dev nD) (t : Fin cfg0.N) (d1 : Vec Ideal S1536x512 .bf16) (d3 : Vec Ideal S512x1024 .i8) :
    iprop(iprop(iprop(owns (c : Thread nD τ) (Memref.whole cc0_scratch0 : Memref sig .tc .vmem S1536x1024 .bf16) fullShare (codesB (iblk m c 2 t)) ∗ owns (c : Thread nD τ) (Memref.whole cc0_scratch1 : Memref sig .tc .vmem S1536x128 .f32) fullShare (scalesB (iblk m c 2 t))) ∗ (∃ r, prngReg c r))
      ∗ (dats m 0 c).owesAt () t.castSucc
      ∗ owns (c : Thread nD τ) (st0_0 t) fullShare (iblk m c 0 t)
      ∗ owns (c : Thread nD τ) (st0_1 t) fullShare (win0_1.fill (grid0.coords t) d1 (iblk m c 1 t))
      ∗ owns (c : Thread nD τ) (st0_2 t) fullShare (iblk m c 2 t)
      ∗ owns (c : Thread nD τ) (st0_3 t) fullShare (win0_3.fill (grid0.coords t) d3 (iblk m c 3 t))
      ∗ owns (c : Thread nD τ) (st0_4 t) fullShare (dxB (iblk m c 2 t) (win0_3.fill (grid0.coords t) d3 (iblk m c 3 t)) ((iblk m c 0 t : Vec Ideal S1 .f32) (ix1 0)))
      ∗ owns (c : Thread nD τ) (st0_5 t) fullShare (dwB (win0_1.fill (grid0.coords t) d1 (iblk m c 1 t)) (iblk m c 2 t))
      ∗ owns (c : Thread nD τ) (st0_6 t) fullShare (codes (iblk m c 2 t))
      ∗ owns (c : Thread nD τ) (st0_7 t) fullShare (scales (iblk m c 2 t))) ⊢ bodyPost m c t := by
  unfold bodyPost
  rw [show (dats m 0 c).owesAt () t.succ = (dats m 0 c).owesAt () t.castSucc from rfl,
    show (dats m 0 c).Φ t.succ = PhiS m c (t.val + 1) t.isLt from rfl, PhiS_pos m c _ _ (Nat.succ_ne_zero _)]
  iintro ⟨⟨HS, Hg⟩, Ho, H0, H1, H2, H3, H4, H5, H6, H7⟩
  isplitl [HS Hg]
  · rw [iblk2]
    isplitl [HS]; · iexact HS
    iexact Hg
  isplitl [Ho]; · iexact Ho
  isplitl [H0]; · iapply (give m c 0 t rfl _ (after0 m c t).symm fun h => absurd h Bool.false_ne_true); iexact H0
  isplitl [H1]; · iapply (giveLoose m c 1 t rfl rfl _ (cut1 m c t d1)); iexact H1
  isplitl [H2]; · iapply (give m c 2 t rfl _ (after2 m c t).symm fun h => absurd h Bool.false_ne_true); iexact H2
  isplitl [H3]; · iapply (giveLoose m c 3 t rfl rfl _ (cut3 m c t d3)); iexact H3
  isplitl [H4]; · iapply (giveLoose m c 4 t rfl rfl _ (cut4 m c t d3)); iexact H4
  isplitl [H5]; · iapply (giveLoose m c 5 t rfl rfl _ (cut5 m c t d1)); iexact H5
  isplitl [H6]; · iapply (give m c 6 t rfl (codes (iblk m c 2 t)) (by rw [iblk2, after6]) fun h d => by rw [before6 m c t (idle_iff6 t h), after6]); iexact H6
  iapply (give m c 7 t rfl (scales (iblk m c 2 t)) (by rw [iblk2, after7]) fun h d => by rw [before7 m c t (idle_iff7 t h), after7]); iexact H7

/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyAt0
  simp only [before0, before1, before2, before3]
  rw [PhiS_castSucc]
  have hN : t.val < 6 := Nat.lt_of_lt_of_eq t.isLt N_0
  by_cases hz : t.val = 0
  · have hc0 : cond0 (grid0.coords t) := (hcond0 t).mpr (by omega)
    rw [PhiS_zero m c _ _ hz, PhiA0_eq]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_A c (grid0.coords t) _ _ _ _ _ _ _ _ _ _ _ _ _ _ _ _ _ (Memref.isWhole_whole _) _ (Memref.isWhole_whole _) hc0 (iblk m c 0 t) (win0_1.fill (grid0.coords t) d1 (iblk m c 1 t)) (iblk m c 2 t) (win0_3.fill (grid0.coords t) d3 (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    iapply (post_of m c t d1 d3)
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hc0 : ¬cond0 (grid0.coords t) := fun h => hz (by have := (hcond0 t).mp h; omega)
    rw [PhiS_pos m c _ _ hz]
    simp only [before6 m c t hz, before7 m c t hz]
    rw [← iblk2 m c t]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (body_B c (grid0.coords t) _ _ _ _ _ _ _ _ _ _ _ _ _ _ _ _ _ (Memref.isWhole_whole _) _ (Memref.isWhole_whole _) hc0 (iblk m c 0 t) (win0_1.fill (grid0.coords t) d1 (iblk m c 1 t)) (iblk m c 2 t) (win0_3.fill (grid0.coords t) d3 (iblk m c 3 t)) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [HS0]; · iexact HS0
    isplitl [HS1]; · iexact HS1
    iintro ⟨H0, H1, H2, H3, H4, H5, HS0, HS1⟩
    iapply (post_of m c t d1 d3)
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

/-- The body table's row at point `t`'s slots is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The library's body obligation. -/
theorem body_obligation (c : Dev nD) :
    BodyObligationLoose (dats m 0 c) (defs₀ (F := Ideal)) Variants.none () Set.univ := fun t => by
  rw [bigSep_W0, bigSep_W0, defs₀_row]
  exact triple_restated (sound_body m c t) rfl .rfl fun _ => .rfl

/-! ## The launch -/

theorem hin (c : Dev nD) : Pipeline.ΦA spec0 c ⊢ (dats m 0 c).Φ 0 := by
  rw [show (dats m 0 c).Φ 0 = PhiS m c 0 (Nat.zero_le _) from rfl, PhiS_zero m c 0 _ rfl]

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 6 := N_0; omega), PhiA0_eq]
  iintro ⟨⟨HS0, HS1⟩, Hg⟩
  isplitl [HS0 HS1]
  · isplitl [HS0]
    · iexists _; iexact HS0
    iexists _; iexact HS1
  iexact Hg

set_option backward.isDefEq.respectTransparency.types false in
set_option maxHeartbeats 800000 in
/-- The launch, with the counters: from any memory with zero counters every fair execution of @main terminates, with the pipeline's
    arrays at what the proof data's write-backs make of them and every semaphore counter at zero. -/
theorem run_main : θ_run defs (onTc (τ := τ) (main (F := Ideal))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

end Cert.KernelIdeal.Hand

end
-- ==== Proof.Ideal.Spec.lean ====
/- The four results as functions of the four arguments, in the batched shapes both programs return. -/
module

public import proofs.«01_k».proof.Proof.Gen.KernelIdeal.Skeleton
public import proofs.«01_k».proof.Proof.Ideal.Quant

@[expose] public section

noncomputable section

namespace Cert.Quant

open Cert.KernelIdeal
open Idealize.ShloMosaic Idealize.ShloMosaic.TcCoe Idealize.ShloMosaic.Tactic

/-- The row of the incoming gradient at (batch, position). -/
def grow (g : Vec Ideal S6x256x1024 .bf16) (p : Fin 6) (q : Fin 256) : Fin 1024 → Ideal .bf16 := fun k => g (ix3 p q k)

/-- The input gradient: the coded rows against the coded weights, rescaled by the row's scale and the weights'. -/
def dxSpec (g : Vec Ideal S6x256x1024 .bf16) (w : Vec Ideal S2880x1024 .i8) (s : Vec Ideal S1 .f32) : Vec Ideal S6x256x2880 .bf16 :=
  fun y => dxE (grow g (y 0) (y 1)) (fun k => w (ix2 (y 2) k)) (s (ix1 0))

/-- The weight gradient: the product of the input and the incoming gradient over batch and position, unquantised. -/
def dwSpec (x : Vec Ideal S6x256x2880 .bf16) (g : Vec Ideal S6x256x1024 .bf16) : Vec Ideal S2880x1024 .f32 :=
  fun y => (∑ p : Fin 6, ∑ q : Fin 256, (x (ix3 p q (y 0)) : EReal) * (g (ix3 p q (y 1)) : EReal) : EReal)

/-- The codes. -/
def codesSpec (g : Vec Ideal S6x256x1024 .bf16) : Vec Ideal S6x256x1024 .i8 := fun y => rowCode (grow g (y 0) (y 1)) (y 2)

/-- The row scales. -/
def scalesSpec (g : Vec Ideal S6x256x1024 .bf16) : Vec Ideal S6x256 .f32 := fun y => rowScale (grow g (y 0) (y 1))

end Cert.Quant

end
-- ==== Proof.Ideal.Final.lean ====
/- The kernel's run at the ideal values: its four results as functions of its arguments. -/
module

public import Idealize.ShloMosaic.Lib.Pipeline.ValueKit
public import proofs.«01_k».proof.Proof.Ideal.Value
public import proofs.«01_k».proof.Proof.Ideal.Spec

@[expose] public section

set_option maxRecDepth 16384

noncomputable section

namespace Cert.KernelIdeal.Hand

open Cert.KernelIdeal Cert.KernelIdeal.Gen Cert.Quant
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-! ## The arrays after the region -/

theorem flush4 : ∀ t : Fin grid0.N, win0_4.flush t = true := by decide +kernel
theorem flush5 : ∀ t : Fin grid0.N, win0_5.flush t = true := by decide +kernel
theorem whole6 : win0_6.WholeAt (⟨5, by decide⟩ : Fin grid0.N) := by decide +kernel
theorem whole7 : win0_7.WholeAt (⟨5, by decide⟩ : Fin grid0.N) := by decide +kernel

theorem arr4 (c : Dev nD) : (dats m 0 c).arrAt 4 cfg0.N = dxAll (X m c) (Wc m c) (ws m c) :=
  (dats m 0 c).arrAt_eq_of_cover 4 (dxAll (X m c) (Wc m c) (ws m c))
    (fun t _ => by
      show win0_4.cut (grid0.coords t) ((dats m 0 c).after 4 t) = _
      rw [after4]
      exact win0_4.cut_fill _ _ _)
    (fun i => let ⟨t, h⟩ := cover4 i; ⟨t, flush4 t, h⟩)

theorem arr5 (c : Dev nD) : (dats m 0 c).arrAt 5 cfg0.N = dwAll (Z m c) (X m c) :=
  (dats m 0 c).arrAt_eq_of_cover 5 (dwAll (Z m c) (X m c))
    (fun t _ => by
      show win0_5.cut (grid0.coords t) ((dats m 0 c).after 5 t) = _
      rw [after5]
      exact win0_5.cut_fill _ _ _)
    (fun i => let ⟨t, h⟩ := cover5 i; ⟨t, flush5 t, h⟩)

theorem arr6 (c : Dev nD) : (dats m 0 c).arrAt 6 cfg0.N = codes (X m c) :=
  Pipeline.Dat.arrAt_eq_of_after_last (dats m 0 c) 6 ⟨5, by decide⟩ whole6 (codes (X m c))
    (fun j => congrFun (after6 m c ⟨5, by decide⟩) j)

theorem arr7 (c : Dev nD) : (dats m 0 c).arrAt 7 cfg0.N = scales (X m c) :=
  Pipeline.Dat.arrAt_eq_of_after_last (dats m 0 c) 7 ⟨5, by decide⟩ whole7 (scales (X m c))
    (fun j => congrFun (after7 m c ⟨5, by decide⟩) j)

/-! ## The host reshapes -/

section HostLines
variable (A : Valuation τ sig (Elt Ideal))

theorem pre_v0 : StableHlo.after (List.flatten [hostOps0]) A (Proc.devRef .tc main_v0)
    = shapeCast S1536x2880 (A (Proc.devRef .tc main_arg0) : Vec Ideal S6x256x2880 .bf16) shapeCasts_S6x256x2880_S1536x2880 := by
  simp only [List.flatten_cons, List.flatten_nil, List.append_nil, hostOps0, StableHlo.after_cons, StableHlo.after_nil]
  rw [StableHlo.reshape_result_ne, StableHlo.reshape_result]
  · rfl
  · decide
theorem pre_v1 : StableHlo.after (List.flatten [hostOps0]) A (Proc.devRef .tc main_v1)
    = shapeCast S1536x1024 (A (Proc.devRef .tc main_arg1) : Vec Ideal S6x256x1024 .bf16) shapeCasts_S6x256x1024_S1536x1024 := by
  simp only [List.flatten_cons, List.flatten_nil, List.append_nil, hostOps0, StableHlo.after_cons, StableHlo.after_nil]
  rw [StableHlo.reshape_result, StableHlo.reshape_result_ne]
  · rfl
  · decide
theorem post_v3 : StableHlo.after (List.flatten [hostOps1]) A (Proc.devRef .tc main_v3)
    = shapeCast S6x256x2880 (A (Proc.devRef .tc main_v2_0) : Vec Ideal S1536x2880 .bf16) shapeCasts_S1536x2880_S6x256x2880 := by
  simp only [List.flatten_cons, List.flatten_nil, List.append_nil, hostOps1, StableHlo.after_cons, StableHlo.after_nil]
  rw [StableHlo.reshape_result_ne, StableHlo.reshape_result]
  · rfl
  · decide
theorem post_v4 : StableHlo.after (List.flatten [hostOps1]) A (Proc.devRef .tc main_v4)
    = shapeCast S6x256x1024 (A (Proc.devRef .tc main_v2_2) : Vec Ideal S1536x1024 .i8) shapeCasts_S1536x1024_S6x256x1024 := by
  simp only [List.flatten_cons, List.flatten_nil, List.append_nil, hostOps1, StableHlo.after_cons, StableHlo.after_nil]
  rw [StableHlo.reshape_result, StableHlo.reshape_result_ne]
  · rfl
  · decide

end HostLines

theorem arr_inj : Function.Injective (Pipeline.arrRef spec0) := by decide

theorem W_v3 (c : Dev nD) : Pipeline.afterTail₀ cfgs (dats m) 0 (V0 m) [hostOps1] c main_v3
    = shapeCast S6x256x2880 (dxAll (X m c) (Wc m c) (ws m c)) shapeCasts_S1536x2880_S6x256x2880 := by
  unfold Pipeline.afterTail₀
  refine (post_v3 _).trans (congrArg (fun u : Vec Ideal S1536x2880 .bf16 => shapeCast S6x256x2880 u shapeCasts_S1536x2880_S6x256x2880) ?_)
  exact (Pipeline.withArrays_arr spec0 arr_inj c (V0 m c) (fun w => (dats m 0 c).arrAt w cfg0.N) 4).trans (arr4 m c)
theorem W_v4 (c : Dev nD) : Pipeline.afterTail₀ cfgs (dats m) 0 (V0 m) [hostOps1] c main_v4
    = shapeCast S6x256x1024 (codes (X m c)) shapeCasts_S1536x1024_S6x256x1024 := by
  unfold Pipeline.afterTail₀
  refine (post_v4 _).trans (congrArg (fun u : Vec Ideal S1536x1024 .i8 => shapeCast S6x256x1024 u shapeCasts_S1536x1024_S6x256x1024) ?_)
  exact (Pipeline.withArrays_arr spec0 arr_inj c (V0 m c) (fun w => (dats m 0 c).arrAt w cfg0.N) 6).trans (arr6 m c)

/-! ## Back to the batched shapes -/

section Layout
variable {α : Type}

theorem flat_2880 (x : S6x256x2880.Idx → α) (h : S6x256x2880.ShapeCasts S1536x2880) (p : Fin 6) (q : Fin 256) (k : Fin 2880) :
    shapeCast S1536x2880 x h (ix2 (flat p q) k) = x (ix3 p q k) :=
  shapeCast_apply x h _ _ (by
    rw [Shape.rowMajor_val_three, Shape.rowMajor_val_two]
    show (p.val * 256 + q.val) * 2880 + k.val = (256 * p.val + q.val) * 2880 + k.val
    ring)

theorem flat_1024 (x : S6x256x1024.Idx → α) (h : S6x256x1024.ShapeCasts S1536x1024) (p : Fin 6) (q : Fin 256) (k : Fin 1024) :
    shapeCast S1536x1024 x h (ix2 (flat p q) k) = x (ix3 p q k) :=
  shapeCast_apply x h _ _ (by
    rw [Shape.rowMajor_val_three, Shape.rowMajor_val_two]
    show (p.val * 256 + q.val) * 1024 + k.val = (256 * p.val + q.val) * 1024 + k.val
    ring)

theorem unflat_2880 (x : S1536x2880.Idx → α) (h : S1536x2880.ShapeCasts S6x256x2880) (p : Fin 6) (q : Fin 256) (k : Fin 2880) :
    shapeCast S6x256x2880 x h (ix3 p q k) = x (ix2 (flat p q) k) :=
  shapeCast_apply x h _ _ (by
    rw [Shape.rowMajor_val_three, Shape.rowMajor_val_two]
    show (256 * p.val + q.val) * 2880 + k.val = (p.val * 256 + q.val) * 2880 + k.val
    ring)

theorem unflat_1024 (x : S1536x1024.Idx → α) (h : S1536x1024.ShapeCasts S6x256x1024) (p : Fin 6) (q : Fin 256) (k : Fin 1024) :
    shapeCast S6x256x1024 x h (ix3 p q k) = x (ix2 (flat p q) k) :=
  shapeCast_apply x h _ _ (by
    rw [Shape.rowMajor_val_three, Shape.rowMajor_val_two]
    show (256 * p.val + q.val) * 1024 + k.val = (p.val * 256 + q.val) * 1024 + k.val
    ring)

end Layout

/-- The incoming gradient. -/
def G (c : Dev nD) : Vec Ideal S6x256x1024 .bf16 := m ((c : Thread nD τ).loc main_arg1)
/-- The input. -/
def Xi (c : Dev nD) : Vec Ideal S6x256x2880 .bf16 := m ((c : Thread nD τ).loc main_arg0)
/-- The weight codes. -/
def Wi (c : Dev nD) : Vec Ideal S2880x1024 .i8 := m ((c : Thread nD τ).loc main_arg2)
/-- The weight scale. -/
def Wsc (c : Dev nD) : Vec Ideal S1 .f32 := m ((c : Thread nD τ).loc main_arg3)

theorem X_eq (c : Dev nD) (p : Fin 6) (q : Fin 256) (k : Fin 1024) : X m c (ix2 (flat p q) k) = G m c (ix3 p q k) :=
  (congrFun (pre_v1 _) _).trans (flat_1024 (G m c) _ p q k)
theorem Z_eq (c : Dev nD) (p : Fin 6) (q : Fin 256) (k : Fin 2880) : Z m c (ix2 (flat p q) k) = Xi m c (ix3 p q k) :=
  (congrFun (pre_v0 _) _).trans (flat_2880 (Xi m c) _ p q k)
theorem Wc_eq (c : Dev nD) : Wc m c = Wi m c := V_main_arg2 m c
theorem ws_eq (c : Dev nD) : ws m c = Wsc m c (ix1 0) := congrFun (V_main_arg3 m c) (ix1 0)

/-- A row of the flattened gradient is the row of its batch and position. -/
theorem row_eq (c : Dev nD) (p : Fin 6) (q : Fin 256) : row (X m c) (flat p q) = grow (G m c) p q :=
  funext fun k => X_eq m c p q k

theorem dx_at (c : Dev nD) (p : Fin 6) (q : Fin 256) (k : Fin 2880) : shapeCast S6x256x2880 (dxAll (X m c) (Wc m c) (ws m c)) shapeCasts_S1536x2880_S6x256x2880 (ix3 p q k)
    = dxSpec (G m c) (Wi m c) (Wsc m c) (ix3 p q k) := by
  rw [unflat_2880]
  show dxE (row (X m c) (flat p q)) (fun j => Wc m c (ix2 k j)) (ws m c) = dxE (grow (G m c) p q) (fun j => Wi m c (ix2 k j)) (Wsc m c (ix1 0))
  rw [row_eq, Wc_eq, ws_eq]

theorem dx_eq (c : Dev nD) : shapeCast S6x256x2880 (dxAll (X m c) (Wc m c) (ws m c)) shapeCasts_S1536x2880_S6x256x2880
    = dxSpec (G m c) (Wi m c) (Wsc m c) :=
  funext fun y => (congrArg _ (eq_ix3 y)).trans ((dx_at m c (y 0) (y 1) (y 2)).trans (congrArg (dxSpec (G m c) (Wi m c) (Wsc m c)) (eq_ix3 y)).symm)

theorem codes_at (c : Dev nD) (p : Fin 6) (q : Fin 256) (k : Fin 1024) : shapeCast S6x256x1024 (codes (X m c)) shapeCasts_S1536x1024_S6x256x1024 (ix3 p q k) = codesSpec (G m c) (ix3 p q k) := by
  rw [unflat_1024]
  show rowCode (row (X m c) (flat p q)) k = rowCode (grow (G m c) p q) k
  rw [row_eq]

theorem codes_eq (c : Dev nD) : shapeCast S6x256x1024 (codes (X m c)) shapeCasts_S1536x1024_S6x256x1024 = codesSpec (G m c) :=
  funext fun y => (congrArg _ (eq_ix3 y)).trans ((codes_at m c (y 0) (y 1) (y 2)).trans (congrArg (codesSpec (G m c)) (eq_ix3 y)).symm)

theorem scales_eq (c : Dev nD) : scales (X m c) = scalesSpec (G m c) :=
  funext fun y => congrArg rowScale (row_eq m c (y 0) (y 1))

/-- A sum over the flattened rows is the sum over batch and position. -/
theorem sum_flat (f : Fin 1536 → EReal) : ∑ k : Fin 1536, f k = ∑ p : Fin 6, ∑ q : Fin 256, f (flat p q) :=
  (Fin.sum_mul_add_congr (S := 6) (n := 256) (F := fun p q => f (flat p q)) (f := f)
    (fun p q hl => congrArg f (Fin.ext (by show 256 * p.val + q.val = p.val * 256 + q.val; ring))) rfl).symm

theorem dw_eq (c : Dev nD) : dwAll (Z m c) (X m c) = dwSpec (Xi m c) (G m c) := by
  funext y
  show (∑ k : Fin 1536, (Z m c (ix2 k (y 0)) : EReal) * (X m c (ix2 k (y 1)) : EReal)) = (∑ p : Fin 6, ∑ q : Fin 256, (Xi m c (ix3 p q (y 0)) : EReal) * (G m c (ix3 p q (y 1)) : EReal))
  rw [sum_flat fun k => (Z m c (ix2 k (y 0)) : EReal) * (X m c (ix2 k (y 1)) : EReal)]
  refine Finset.sum_congr rfl fun p _ => Finset.sum_congr rfl fun q _ => ?_
  rw [Z_eq m c p q (y 0), X_eq m c p q (y 1)]

/-! ## The run -/

/-- Every fair run ends with the four results at the mathematics of the arguments and the arguments as they were. -/
theorem run_values : θ_run defs (onTc (τ := τ) (main (F := Ideal))) ⟨m, fun _ => 0, ρ⟩ fun r => ∀ c : Dev nD,
      r.2.mem ((c : Thread nD τ).loc main_v3) = dxSpec (G m c) (Wi m c) (Wsc m c)
      ∧ r.2.mem ((c : Thread nD τ).loc main_v2_1) = dwSpec (Xi m c) (G m c)
      ∧ r.2.mem ((c : Thread nD τ).loc main_v4) = codesSpec (G m c)
      ∧ r.2.mem ((c : Thread nD τ).loc main_v2_3) = scalesSpec (G m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(((h.1 c).2 main_v3 (Pipeline.mem_restRefs_of main_v3 (by decide) (by decide))).trans (W_v3 m c)).trans (dx_eq m c),
      (((h.1 c).1 5).trans (arr5 m c)).trans (dw_eq m c),
      (((h.1 c).2 main_v4 (Pipeline.mem_restRefs_of main_v4 (by decide) (by decide))).trans (W_v4 m c)).trans (codes_eq m c),
      (((h.1 c).1 7).trans (arr7 m c)).trans (scales_eq m c),
      ((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 3).trans (((dats m 0 c).arrAt_in 3 rfl _).trans ((A_eq m c 3).trans (V_main_arg2 m c))),
      ((h.1 c).1 0).trans (((dats m 0 c).arrAt_in 0 rfl _).trans ((A_eq m c 0).trans (V_main_arg3 m c)))⟩)
    (run_main m ρ)

/-- The frame, with the counters: the argument arrays end as they were and every semaphore counter is at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun r h => ⟨fun c => ⟨((h.1 c).2 main_arg0 (Pipeline.mem_restRefs_of main_arg0 (by decide) (by decide))).trans (W_main_arg0 m (dats m) c),
      ((h.1 c).2 main_arg1 (Pipeline.mem_restRefs_of main_arg1 (by decide) (by decide))).trans (W_main_arg1 m (dats m) c),
      ((h.1 c).1 3).trans (((dats m 0 c).arrAt_in 3 rfl _).trans ((A_eq m c 3).trans (V_main_arg2 m c))),
      ((h.1 c).1 0).trans (((dats m 0 c).arrAt_in 0 rfl _).trans ((A_eq m c 0).trans (V_main_arg3 m c)))⟩, h.2⟩)
    (run_main m ρ)

end Cert.KernelIdeal.Hand

end
-- ==== Proof.Ref.Payload.lean ====
/- The reference body's pure expressions and its host product, read at an index. -/
module

public import proofs.«01_k».proof.Proof.Gen.ReferenceIdeal.Skeleton
public import proofs.«01_k».proof.Proof.Ideal.Quant

@[expose] public section

set_option maxRecDepth 16384

noncomputable section

namespace Cert.ReferenceIdeal.Hand

open Cert.ReferenceIdeal Cert.ReferenceIdeal.Gen Cert.Quant
open Idealize.ShloMosaic Idealize.ShloMosaic.TcCoe Idealize.ShloMosaic.Tactic

section Layout
variable {α : Type}

theorem cast_6x256_6x256x1 (x : S6x256.Idx → α) (h : S6x256.ShapeCasts S6x256x1) (p : Fin 6) (q : Fin 256) (r : Fin 1) :
    shapeCast S6x256x1 x h (ix3 p q r) = x (ix2 p q) := by
  pointwise

theorem bc_1024 (x : S6x256x1.Idx → α) (h : S6x256x1.Broadcasts S6x256x1024) (p : Fin 6) (q : Fin 256) (k : Fin 1024) :
    broadcastTo S6x256x1024 x h (ix3 p q k) = x (ix3 p q 0) := by
  pointwise

theorem bc_2880 (x : S6x256x1.Idx → α) (h : S6x256x1.Broadcasts S6x256x2880) (p : Fin 6) (q : Fin 256) (k : Fin 2880) :
    broadcastTo S6x256x2880 x h (ix3 p q k) = x (ix3 p q 0) := by
  pointwise

end Layout

/-- The row of the incoming gradient at (batch, position). -/
def rrow (v : Vec Ideal S6x256x1024 .bf16) (p : Fin 6) (q : Fin 256) : Fin 1024 → Ideal .bf16 := fun k => v (ix3 p q k)

section AnyValues
variable {F : FTy → Type} [FloatOps F]

theorem pay2_gen (v : Vec F S6x256x1024 .bf16) (y : S6x256.Idx) :
    k0_pay2 v y = scaleOf (multiReduction .maximumf [2] S6x256 (absf (k0_pay1 v)) 0xFF800000#32 reduces_S6x256x1024_S6x256 (.inl rfl) rfl y) := rfl

theorem pay3_gen (v : Vec F S6x256x1024 .bf16) (y : S6x256x1024.Idx) :
    k0_pay3 v y = codeOf (broadcastTo S6x256x1024 (shapeCast S6x256x1 (k0_pay2 v) shapeCasts_S6x256_S6x256x1) broadcasts_S6x256x1_S6x256x1024 y) (extE (v y)) := rfl

end AnyValues

/-- The row maxima. -/
theorem max_apply (v : Vec Ideal S6x256x1024 .bf16) (p : Fin 6) (q : Fin 256) :
    multiReduction .maximumf [2] S6x256 (absf (k0_pay1 v)) 0xFF800000#32 reduces_S6x256x1024_S6x256 (.inl rfl) rfl (ix2 p q) = rowMax (rrow v p q) := by
  have e : (absf (k0_pay1 v) : FVec Ideal S6x256x1024 .f32) = fun y => absE (v y) := rfl
  rw [e]
  refine (Ideal.multiReduction_maximumf_single _ _ _ _ _ _).trans ?_
  unfold rowMax
  exact congrArg (fun f => Finset.fold max _ f _) (funext fun k => congrArg absE (congrArg v (eq_ix3 _)))

/-- The scales. -/
theorem pay2_apply (v : Vec Ideal S6x256x1024 .bf16) (p : Fin 6) (q : Fin 256) : k0_pay2 v (ix2 p q) = rowScale (rrow v p q) :=
  (pay2_gen v _).trans (congrArg scaleOf (max_apply v p q))

/-- The codes. -/
theorem pay3_apply (v : Vec Ideal S6x256x1024 .bf16) (p : Fin 6) (q : Fin 256) (k : Fin 1024) : k0_pay3 v (ix3 p q k) = rowCode (rrow v p q) k := by
  rw [pay3_gen, bc_1024, cast_6x256_6x256x1, pay2_apply]; rfl

/-- The input gradient. -/
theorem pay4_apply (v : Vec Ideal S6x256x1024 .bf16) (w : Vec Ideal S2880x1024 .i8) (u : Elt Ideal .f32) (p : Fin 6) (q : Fin 256) (i : Fin 2880) :
    k0_pay4 v w u (ix3 p q i) = dxE (rrow v p q) (fun k => w (ix2 i k)) u := by
  unfold dxE
  pointwise [k0_pay4]
  simp only [pay3_apply, pay2_apply]
  rfl

/-- The weight gradient. -/
theorem dw_apply (x : Vec Ideal S6x256x2880 .bf16) (v : Vec Ideal S6x256x1024 .bf16) (i : Fin 2880) (o : Fin 1024) :
    (Host.dotGeneral (F := Ideal) (φ₁ := .bf16) (φ₂ := .bf16) dot_S6x256x2880_S6x256x1024_S2880x1024_01_01_2_2_n_n none x v (ix2 i o) : EReal)
      = (∑ p : Fin 6, ∑ q : Fin 256, (x (ix3 p q i) : EReal) * (v (ix3 p q o) : EReal) : EReal) := by
  pointwise

end Cert.ReferenceIdeal.Hand

end
-- ==== Proof.Ref.Value.lean ====
/- The reference's run at the ideal values: its four results as functions of its arguments. -/
module

public import Idealize.ShloMosaic.Lib.Pipeline.ValueKit.Geometry
public import Idealize.ShloMosaic.Lib.VecWindow
public import proofs.«01_k».proof.Proof.Gen.ReferenceIdeal.Value
public import proofs.«01_k».proof.Proof.Ref.Payload
public import proofs.«01_k».proof.Proof.Ideal.Spec

@[expose] public section

set_option maxRecDepth 16384

noncomputable section

namespace Cert.ReferenceIdeal.Hand

open Cert.ReferenceIdeal Cert.ReferenceIdeal.Gen Cert.Quant
open Idealize.ShloMosaic Idealize.ShloMosaic.TcCoe Idealize.ShloMosaic.Tactic
open Idealize.SL.Sem
open Idealize.ShloMosaic.Pipeline (Dat)

variable (m : (ℓ : Loc nD τ sig) → Buf (Elt Ideal) ℓ) (ρ : Dev nD → PrngReg)

/-- The incoming gradient. -/
def G (c : Dev nD) : Vec Ideal S6x256x1024 .bf16 := m ((c : Thread nD τ).loc main_arg1)
/-- The input. -/
def Xi (c : Dev nD) : Vec Ideal S6x256x2880 .bf16 := m ((c : Thread nD τ).loc main_arg0)
/-- The weight codes. -/
def Wc (c : Dev nD) : Vec Ideal S2880x1024 .i8 := m ((c : Thread nD τ).loc main_arg2)
/-- The weight scale. -/
def Ws (c : Dev nD) : Vec Ideal S1 .f32 := m ((c : Thread nD τ).loc main_arg3)

/-! ## The one point's blocks are the arrays -/

theorem off0 : ∀ t : Fin grid0.N, ∀ a, win0_0.kind.off (win0_0.index t a) (win0_0.size a) = 0 := by decide +kernel
theorem off1 : ∀ t : Fin grid0.N, ∀ a, win0_1.kind.off (win0_1.index t a) (win0_1.size a) = 0 := by decide +kernel
theorem off2 : ∀ t : Fin grid0.N, ∀ a, win0_2.kind.off (win0_2.index t a) (win0_2.size a) = 0 := by decide +kernel

theorem iblk0 (c : Dev nD) (t : Fin cfg0.N) : iblk m c 0 t = G m c := by
  funext j
  show (V m c main_arg1 : Vec Ideal S6x256x1024 .bf16) ((win0_0.rect t).emb j) = _
  rw [V_main_arg1]
  exact congrArg (G m c) (funext fun a => Fin.ext (by rw [Pipeline.Window.rect_emb_val_off, off0, Nat.zero_add]))
theorem iblk1 (c : Dev nD) (t : Fin cfg0.N) : iblk m c 1 t = Wc m c := by
  funext j
  show (V m c main_arg2 : Vec Ideal S2880x1024 .i8) ((win0_1.rect t).emb j) = _
  rw [V_main_arg2]
  exact congrArg (Wc m c) (funext fun a => Fin.ext (by rw [Pipeline.Window.rect_emb_val_off, off1, Nat.zero_add]))
theorem iblk2 (c : Dev nD) (t : Fin cfg0.N) : iblk m c 2 t = Ws m c := by
  funext j
  show (V m c main_arg3 : Vec Ideal S1 .f32) ((win0_2.rect t).emb j) = _
  rw [V_main_arg3]
  exact congrArg (Ws m c) (funext fun a => Fin.ext (by rw [Pipeline.Window.rect_emb_val_off, off2, Nat.zero_add]))

/-! ## What the body leaves -/

/-- A load of the whole of a buffer reads its contents. -/
theorem readAt_unread_full {κ : Kind} {sp : Space} {s : Shape} {e : EltTy} (M : Memref sig κ sp s e) (hM : M.IsWhole) (Y : s.Idx → Elt Ideal e) {off : Fin s.rank → ℕ}
    (inb : ∀ a, off a + s.size a ≤ s.size a) : M.view.readAt (Elt Ideal) (Rect.unit off s.size inb).toLoadRect (hM.unread Y) = Y := by
  rw [View.readAt_full, hM.read_unread]

/-- The weight scale, loaded from its one-element buffer. -/
theorem load_scale (M : Memref sig .tc .smem S1 .f32) (hM : M.IsWhole) (Y : Vec Ideal S1 .f32) (j : S1.Idx) :
    M.view.readAt (Elt Ideal) (Rect.unit ![0] S1.size inb_S1_S1_0).toLoadRect (hM.unread Y) j = Y (ix1 0) := by
  rw [readAt_unread_full]
  exact congrArg Y (funext fun a => Fin.ext (by match a with | ⟨0, _⟩ => exact Nat.lt_one_iff.mp (j 0).isLt))

theorem emb_full3 (y : S6x256x2880.Idx) : (Rect.unit (s := S6x256x2880) ![0, 0, 0] S6x256x2880.size inb_S6x256x2880_S6x256x2880_0_0_0).emb y = y :=
  funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
theorem emb_full4 (y : S6x256x1024.Idx) : (Rect.unit (s := S6x256x1024) ![0, 0, 0] S6x256x1024.size inb_S6x256x1024_S6x256x1024_0_0_0).emb y = y :=
  funext fun a => Fin.ext (by
    match a with
    | ⟨0, _⟩ => show 0 + 1 * (y 0).val = (y 0).val; omega
    | ⟨1, _⟩ => show 0 + 1 * (y 1).val = (y 1).val; omega
    | ⟨2, _⟩ => show 0 + 1 * (y 2).val = (y 2).val; omega)
theorem emb_full5 (y : S6x256.Idx) : (Rect.unit (s := S6x256) ![0, 0] S6x256.size inb_S6x256_S6x256_0_0).emb y = y :=
  funext fun a => Fin.ext (by
    match a with
    | ⟨0, _⟩ => show 0 + 1 * (y 0).val = (y 0).val; omega
    | ⟨1, _⟩ => show 0 + 1 * (y 1).val = (y 1).val; omega)

theorem stored3 (c : Dev nD) (arg0 : Memref sig .tc .vmem S6x256x1024 .bf16) (harg0 : arg0.IsWhole) (arg1 : Memref sig .tc .vmem S2880x1024 .i8) (harg1 : arg1.IsWhole) (arg2 : Memref sig .tc .smem S1 .f32) (harg2 : arg2.IsWhole) (arg3 : Memref sig .tc .vmem S6x256x2880 .bf16) (harg3 : arg3.IsWhole) (arg4 : Memref sig .tc .vmem S6x256x1024 .i8) (harg4 : arg4.IsWhole) (arg5 : Memref sig .tc .vmem S6x256 .f32) (harg5 : arg5.IsWhole)
    (x0 : Vec Ideal S6x256x1024 .bf16) (x1 : Vec Ideal S2880x1024 .i8) (x2 : Vec Ideal S1 .f32) :
    out0_A_3 c arg0 harg0 arg1 harg1 arg2 harg2 arg3 harg3 arg4 harg4 arg5 harg5 x0 x1 x2 = k0_pay4 x0 x1 (x2 (ix1 0)) := by
  funext y
  unfold out0_A_3
  refine View.read_writes_apply_of_pieces VO0_3 _ (k0_pay4 x0 x1 (x2 (ix1 0))) _ ?_ y (cover0_A_3 c arg0 harg0 arg1 harg1 arg2 harg2 arg3 harg3 arg4 harg4 arg5 harg5 x0 x1 x2 y)
  unfold kernelRun0_A
  dsimp only
  intro p hp
  simp only [List.mem_cons, List.not_mem_nil, or_false] at hp
  rcases hp with rfl
  intro y
  dsimp only
  exact (congrFun (congr (congr (congrArg k0_pay4 (readAt_unread_full arg0 harg0 x0 inb_S6x256x1024_S6x256x1024_0_0_0)) (readAt_unread_full arg1 harg1 x1 inb_S2880x1024_S2880x1024_0_0)) (load_scale arg2 harg2 x2 (Shape.Idx.first (by decide)))) y).trans (congrArg (k0_pay4 x0 x1 (x2 (ix1 0))) (emb_full3 y)).symm

theorem stored4 (c : Dev nD) (arg0 : Memref sig .tc .vmem S6x256x1024 .bf16) (harg0 : arg0.IsWhole) (arg1 : Memref sig .tc .vmem S2880x1024 .i8) (harg1 : arg1.IsWhole) (arg2 : Memref sig .tc .smem S1 .f32) (harg2 : arg2.IsWhole) (arg3 : Memref sig .tc .vmem S6x256x2880 .bf16) (harg3 : arg3.IsWhole) (arg4 : Memref sig .tc .vmem S6x256x1024 .i8) (harg4 : arg4.IsWhole) (arg5 : Memref sig .tc .vmem S6x256 .f32) (harg5 : arg5.IsWhole)
    (x0 : Vec Ideal S6x256x1024 .bf16) (x1 : Vec Ideal S2880x1024 .i8) (x2 : Vec Ideal S1 .f32) :
    out0_A_4 c arg0 harg0 arg1 harg1 arg2 harg2 arg3 harg3 arg4 harg4 arg5 harg5 x0 x1 x2 = k0_pay3 x0 := by
  funext y
  unfold out0_A_4
  refine View.read_writes_apply_of_pieces VO0_4 _ (k0_pay3 x0) _ ?_ y (cover0_A_4 c arg0 harg0 arg1 harg1 arg2 harg2 arg3 harg3 arg4 harg4 arg5 harg5 x0 x1 x2 y)
  unfold kernelRun0_A
  dsimp only
  intro p hp
  simp only [List.mem_cons, List.not_mem_nil, or_false] at hp
  rcases hp with rfl
  intro y
  dsimp only
  exact (congrFun (congrArg k0_pay3 (readAt_unread_full arg0 harg0 x0 inb_S6x256x1024_S6x256x1024_0_0_0)) y).trans (congrArg (k0_pay3 x0) (emb_full4 y)).symm

theorem stored5 (c : Dev nD) (arg0 : Memref sig .tc .vmem S6x256x1024 .bf16) (harg0 : arg0.IsWhole) (arg1 : Memref sig .tc .vmem S2880x1024 .i8) (harg1 : arg1.IsWhole) (arg2 : Memref sig .tc .smem S1 .f32) (harg2 : arg2.IsWhole) (arg3 : Memref sig .tc .vmem S6x256x2880 .bf16) (harg3 : arg3.IsWhole) (arg4 : Memref sig .tc .vmem S6x256x1024 .i8) (harg4 : arg4.IsWhole) (arg5 : Memref sig .tc .vmem S6x256 .f32) (harg5 : arg5.IsWhole)
    (x0 : Vec Ideal S6x256x1024 .bf16) (x1 : Vec Ideal S2880x1024 .i8) (x2 : Vec Ideal S1 .f32) :
    out0_A_5 c arg0 harg0 arg1 harg1 arg2 harg2 arg3 harg3 arg4 harg4 arg5 harg5 x0 x1 x2 = k0_pay2 x0 := by
  funext y
  unfold out0_A_5
  refine View.read_writes_apply_of_pieces VO0_5 _ (k0_pay2 x0) _ ?_ y (cover0_A_5 c arg0 harg0 arg1 harg1 arg2 harg2 arg3 harg3 arg4 harg4 arg5 harg5 x0 x1 x2 y)
  unfold kernelRun0_A
  dsimp only
  intro p hp
  simp only [List.mem_cons, List.not_mem_nil, or_false] at hp
  rcases hp with rfl
  intro y
  dsimp only
  exact (congrFun (congrArg k0_pay2 (readAt_unread_full arg0 harg0 x0 inb_S6x256x1024_S6x256x1024_0_0_0)) y).trans (congrArg (k0_pay2 x0) (emb_full5 y)).symm

theorem spec3 (g : Vec Ideal S6x256x1024 .bf16) (w : Vec Ideal S2880x1024 .i8) (s : Vec Ideal S1 .f32) : k0_pay4 g w (s (ix1 0)) = dxSpec g w s := by
  funext y
  have e : ∀ (p : Fin 6) (q : Fin 256) (k : Fin 2880), k0_pay4 g w (s (ix1 0)) (ix3 p q k) = dxSpec g w s (ix3 p q k) := fun p q k => pay4_apply g w _ p q k
  exact (congrArg (k0_pay4 g w (s (ix1 0))) (eq_ix3 y)).trans ((e (y 0) (y 1) (y 2)).trans (congrArg (dxSpec g w s) (eq_ix3 y)).symm)
theorem spec4 (g : Vec Ideal S6x256x1024 .bf16) : k0_pay3 g = codesSpec g := by
  funext y
  have e : ∀ (p : Fin 6) (q : Fin 256) (k : Fin 1024), k0_pay3 g (ix3 p q k) = codesSpec g (ix3 p q k) := fun p q k => pay3_apply g p q k
  exact (congrArg (k0_pay3 g) (eq_ix3 y)).trans ((e (y 0) (y 1) (y 2)).trans (congrArg (codesSpec g) (eq_ix3 y)).symm)
theorem spec5 (g : Vec Ideal S6x256x1024 .bf16) : k0_pay2 g = scalesSpec g := by
  funext y
  have e : ∀ (p : Fin 6) (q : Fin 256), k0_pay2 g (ix2 p q) = scalesSpec g (ix2 p q) := fun p q => pay2_apply g p q
  exact (congrArg (k0_pay2 g) (eq_ix2 y)).trans ((e (y 0) (y 1)).trans (congrArg (scalesSpec g) (eq_ix2 y)).symm)

theorem left3 (c : Dev nD) (t : Fin cfg0.N) : (outsAt0 m c t).1 = dxSpec (G m c) (Wc m c) (Ws m c) := by
  unfold outsAt0
  dsimp only
  rw [stored3, iblk0, iblk1, iblk2, spec3]
theorem left4 (c : Dev nD) (t : Fin cfg0.N) : (outsAt0 m c t).2.1 = codesSpec (G m c) := by
  unfold outsAt0
  dsimp only
  rw [stored4, iblk0, spec4]
theorem left5 (c : Dev nD) (t : Fin cfg0.N) : (outsAt0 m c t).2.2 = scalesSpec (G m c) := by
  unfold outsAt0
  dsimp only
  rw [stored5, iblk0, spec5]

/-! ## The arrays after the region -/

theorem whole3 : win0_3.WholeAt (⟨0, by decide⟩ : Fin grid0.N) := by decide +kernel
theorem whole4 : win0_4.WholeAt (⟨0, by decide⟩ : Fin grid0.N) := by decide +kernel
theorem whole5 : win0_5.WholeAt (⟨0, by decide⟩ : Fin grid0.N) := by decide +kernel

theorem arr3 (c : Dev nD) : (dats m 0 c).arrAt 3 cfg0.N = dxSpec (G m c) (Wc m c) (Ws m c) :=
  Pipeline.Dat.arrAt_eq_of_after_last (dats m 0 c) 3 ⟨0, by decide⟩ whole3 (dxSpec (G m c) (Wc m c) (Ws m c))
    (fun j => congrFun ((after0_3 m c ⟨0, by decide⟩).trans (left3 m c _)) j)
theorem arr4 (c : Dev nD) : (dats m 0 c).arrAt 4 cfg0.N = codesSpec (G m c) :=
  Pipeline.Dat.arrAt_eq_of_after_last (dats m 0 c) 4 ⟨0, by decide⟩ whole4 (codesSpec (G m c))
    (fun j => congrFun ((after0_4 m c ⟨0, by decide⟩).trans (left4 m c _)) j)
theorem arr5 (c : Dev nD) : (dats m 0 c).arrAt 5 cfg0.N = scalesSpec (G m c) :=
  Pipeline.Dat.arrAt_eq_of_after_last (dats m 0 c) 5 ⟨0, by decide⟩ whole5 (scalesSpec (G m c))
    (fun j => congrFun ((after0_5 m c ⟨0, by decide⟩).trans (left5 m c _)) j)

/-! ## The host product -/

theorem pre_v0 (A : Valuation τ sig (Elt Ideal)) : StableHlo.after (List.flatten [hostOps0]) A (Proc.devRef .tc main_v0)
    = Host.dotGeneral (F := Ideal) (φ₁ := .bf16) (φ₂ := .bf16) dot_S6x256x2880_S6x256x1024_S2880x1024_01_01_2_2_n_n none (A (Proc.devRef .tc main_arg0)) (A (Proc.devRef .tc main_arg1)) := by
  simp only [List.flatten_cons, List.flatten_nil, List.append_nil, hostOps0, StableHlo.after_cons, StableHlo.after_nil]
  rw [StableHlo.binary_result]

theorem V_v0 (c : Dev nD) : V m c main_v0 = dwSpec (Xi m c) (G m c) := by
  refine (pre_v0 _).trans (funext fun y => ?_)
  have e : ∀ (i : Fin 2880) (o : Fin 1024), (Host.dotGeneral (F := Ideal) (φ₁ := .bf16) (φ₂ := .bf16) dot_S6x256x2880_S6x256x1024_S2880x1024_01_01_2_2_n_n none (Xi m c) (G m c) : Vec Ideal S2880x1024 .f32) (ix2 i o) = dwSpec (Xi m c) (G m c) (ix2 i o) := fun i o => dw_apply (Xi m c) (G m c) i o
  exact (congrArg _ (eq_ix2 y)).trans ((e (y 0) (y 1)).trans (congrArg (dwSpec (Xi m c) (G m c)) (eq_ix2 y)).symm)

/-! ## The run -/

/-- Every fair run ends with the four results at the mathematics of the arguments and the arguments as they were. -/
theorem run_values : θ_run defs (onTc (τ := τ) (main (F := Ideal))) ⟨m, fun _ => 0, ρ⟩ fun r => ∀ c : Dev nD,
      r.2.mem ((c : Thread nD τ).loc main_v1_0) = dxSpec (G m c) (Wc m c) (Ws m c)
      ∧ r.2.mem ((c : Thread nD τ).loc main_v0) = dwSpec (Xi m c) (G m c)
      ∧ r.2.mem ((c : Thread nD τ).loc main_v1_1) = codesSpec (G m c)
      ∧ r.2.mem ((c : Thread nD τ).loc main_v1_2) = scalesSpec (G m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(Value.post3 m r h c).trans (arr3 m c),
      ((h c).2 main_v0 (Pipeline.mem_restRefs_of main_v0 (by decide) (by decide))).trans (V_v0 m c),
      (Value.post4 m r h c).trans (arr4 m c),
      (Value.post5 m r h c).trans (arr5 m c),
      Value.kept_main_arg0 m r h c,
      Value.kept_main_arg1 m r h c,
      Value.kept_main_arg2 m r h c,
      Value.kept_main_arg3 m r h c⟩)
    (run_main m ρ)

end Cert.ReferenceIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Bits.Frame
public import proofs.«01_k».proof.Proof.Ideal.Final
public import proofs.«01_k».proof.Proof.Ref.Value
public import Idealize.ShloMosaic.Adequacy
public import Idealize.ShloMosaic.Init

@[expose] public section

noncomputable section

namespace Cert.Proof

open Idealize.ShloMosaic Idealize.SL.Sem Cert.Kernel

/-- The kernel and the reference, from memories that agree on the arguments, both end with the four results that
    `Cert.Quant.dxSpec`, `dwSpec`, `codesSpec` and `scalesSpec` state of the arguments. -/
theorem algebraic [hKernelIdeal : Cert.KernelIdeal.Facts] [hReferenceIdeal : Cert.ReferenceIdeal.Facts] : Cert.algebraic_KernelIdeal_ReferenceIdeal := by
  intro m g m' g' _ hargs
  refine ⟨fun c => Cert.Quant.dxSpec (Cert.KernelIdeal.Hand.G m c) (Cert.KernelIdeal.Hand.Wi m c) (Cert.KernelIdeal.Hand.Wsc m c),
    fun c => Cert.Quant.dwSpec (Cert.KernelIdeal.Hand.Xi m c) (Cert.KernelIdeal.Hand.G m c),
    fun c => Cert.Quant.codesSpec (Cert.KernelIdeal.Hand.G m c),
    fun c => Cert.Quant.scalesSpec (Cert.KernelIdeal.Hand.G m c),
    Cert.KernelIdeal.Hand.run_values m g, ?_⟩
  have e0 : ∀ c, Cert.ReferenceIdeal.Hand.Xi m' c = Cert.KernelIdeal.Hand.Xi m c := fun c => (hargs c).1
  have e1 : ∀ c, Cert.ReferenceIdeal.Hand.G m' c = Cert.KernelIdeal.Hand.G m c := fun c => (hargs c).2.1
  have e2 : ∀ c, Cert.ReferenceIdeal.Hand.Wc m' c = Cert.KernelIdeal.Hand.Wi m c := fun c => (hargs c).2.2.1
  have e3 : ∀ c, Cert.ReferenceIdeal.Hand.Ws m' c = Cert.KernelIdeal.Hand.Wsc m c := fun c => (hargs c).2.2.2
  refine (θ_run Cert.ReferenceIdeal.defs _ _).mono (fun r h c => ?_) (Cert.ReferenceIdeal.Hand.run_values m' g')
  obtain ⟨h0, h1, h2, h3, h4⟩ := h c
  exact ⟨h0.trans (congr (congr (congrArg Cert.Quant.dxSpec (e1 c)) (e2 c)) (e3 c)),
    h1.trans (congr (congrArg Cert.Quant.dwSpec (e0 c)) (e1 c)),
    h2.trans (congrArg Cert.Quant.codesSpec (e1 c)),
    h3.trans (congrArg Cert.Quant.scalesSpec (e1 c)), h4⟩

/-- The five claims. -/
theorem claim : Cert.Claim := ⟨Cert.Kernel.Gen.facts, Cert.KernelIdeal.Gen.facts, Cert.ReferenceIdeal.Gen.facts,
  fun m g _ => Cert.Kernel.Hand.frame m g,
  fun m g _ => Cert.KernelIdeal.Hand.frame m g,
  fun m g _ => Cert.ReferenceIdeal.Gen.frame m g,
  trivial,
  algebraic (hKernelIdeal := Cert.KernelIdeal.Gen.facts) (hReferenceIdeal := Cert.ReferenceIdeal.Gen.facts)⟩

end Cert.Proof

end
